-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal_on_leading_distinct [hKernelIdeal : Cert.KernelIdeal.Facts] [hReferenceIdeal : Cert.ReferenceIdeal.Facts] [hOn_leading_distinct : Cert.On_leading_distinct.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m ((c.tc : Thread Cert.KernelIdeal.nD Cert.KernelIdeal.τ).loc Cert.KernelIdeal.main_arg0) = Layout.block ⟨2, ![256, 1024]⟩ ⟨2, ![256, 4096]⟩ 1 4 c (m' (((0 : Dev Cert.ReferenceIdeal.nD).tc : Thread Cert.ReferenceIdeal.nD Cert.ReferenceIdeal.τ).loc Cert.ReferenceIdeal.main_arg0))) →
    ∃ (v0 : Buf (Elt Ideal) (((0 : Dev Cert.ReferenceIdeal.nD).tc : Thread Cert.ReferenceIdeal.nD Cert.ReferenceIdeal.τ).loc Cert.ReferenceIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          (∀ i : (⟨2, ![256, 8]⟩ : Shape).Idx, (Cert.On_leading_distinct.fn (F := Ideal) (m' (((0 : Dev Cert.ReferenceIdeal.nD).tc : Thread Cert.ReferenceIdeal.nD Cert.ReferenceIdeal.τ).loc Cert.ReferenceIdeal.main_arg0))) i = 1#1 → r.2.mem ((c.tc : Thread Cert.KernelIdeal.nD Cert.KernelIdeal.τ).loc Cert.KernelIdeal.main_v1) i = v0 i)
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r =>
          (∀ i : (⟨2, ![256, 8]⟩ : Shape).Idx, (Cert.On_leading_distinct.fn (F := Ideal) (m' (((0 : Dev Cert.ReferenceIdeal.nD).tc : Thread Cert.ReferenceIdeal.nD Cert.ReferenceIdeal.τ).loc Cert.ReferenceIdeal.main_arg0))) i = 1#1 → r.2.mem (((0 : Dev Cert.ReferenceIdeal.nD).tc : Thread Cert.ReferenceIdeal.nD Cert.ReferenceIdeal.τ).loc Cert.ReferenceIdeal.main_v3) i = v0 i)
          ∧ r.2.mem (((0 : Dev Cert.ReferenceIdeal.nD).tc : Thread Cert.ReferenceIdeal.nD Cert.ReferenceIdeal.τ).loc Cert.ReferenceIdeal.main_arg0) = m' (((0 : Dev Cert.ReferenceIdeal.nD).tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hOn_leading_distinct : Cert.On_leading_distinct.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal_on_leading_distinct (hKernelIdeal := hKernelIdeal) (hReferenceIdeal := hReferenceIdeal) (hOn_leading_distinct := hOn_leading_distinct)
-- ==== On_leading_distinct.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩
abbrev S256x7 : Shape := ⟨2, ![256, 7]⟩
abbrev S256x1 : Shape := ⟨2, ![256, 1]⟩

class Facts : Prop where
  slices_S256x4096_S256x8_0_0 : S256x4096.Slices ![0, 0] S256x8
  bcast_S_S256x8 : S_.BroadcastsInDim S256x8 (![] : Fin 0 → Fin S256x8.rank)
  shapeCasts_S256x8_S256x8x1 : S256x8.ShapeCasts S256x8x1
  bcast_S_S256x8x1 : S_.BroadcastsInDim S256x8x1 (![] : Fin 0 → Fin S256x8x1.rank)
  bcast_S1_S1x1x1_2 : S1.BroadcastsInDim S1x1x1 (![2] : Fin 1 → Fin S1x1x1.rank)
  bcast_S1x1x1_S256x8x1_0_1_2 : S1x1x1.BroadcastsInDim S256x8x1 (![0, 1, 2] : Fin 3 → Fin S256x8x1.rank)
  reducesTo_S256x8x1_S256x8_d2 : S256x8x1.ReducesTo [2] S256x8
  h_S_ : 0 < S_.numel
  slices_S256x8_S256x7_0_1 : S256x8.Slices ![0, 1] S256x7
  slices_S256x8_S256x7_0_0 : S256x8.Slices ![0, 0] S256x7
  bcast_S_S256x1 : S_.BroadcastsInDim S256x1 (![] : Fin 0 → Fin S256x1.rank)
  slices_S256x7_S256x1_0_0 : S256x7.Slices ![0, 0] S256x1
  slices_S256x7_S256x1_0_1 : S256x7.Slices ![0, 1] S256x1
  slices_S256x7_S256x1_0_2 : S256x7.Slices ![0, 2] S256x1
  slices_S256x7_S256x1_0_3 : S256x7.Slices ![0, 3] S256x1
  slices_S256x7_S256x1_0_4 : S256x7.Slices ![0, 4] S256x1
  slices_S256x7_S256x1_0_5 : S256x7.Slices ![0, 5] S256x1
  slices_S256x7_S256x1_0_6 : S256x7.Slices ![0, 6] S256x1
  concatenates_S256x1_S256x1_S256x1_S256x1_S256x1_S256x1_S256x1_S256x1_S256x8_d1 : Shape.Concatenates [S256x1, S256x1, S256x1, S256x1, S256x1, S256x1, S256x1, S256x1] S256x8 1
  gather_S256x4096_S256x8x1_S256x8_n_1_0_0_1_2_11_wf : GatherDims.WF S256x4096 S256x8x1 S256x8 [] [1] [0] [1] [0] 2 ![1, 1]

variable [Facts]

variable {F : FTy → Type} [FloatOps F]
def comparator_f32_i32_d1 : F .f32 × BitVec 32 → F .f32 × BitVec 32 → BitVec 1 :=
  fun l r =>
    let cst := FloatOps.ofBits .f32 0x00000000#32
    let v2 := FloatOps.cmpf .oeq l.1 cst
    let cst_0 := FloatOps.ofBits .f32 0x00000000#32
    let v3 := Scalar.select v2 cst_0 l.1
    let v4 := FloatOps.cmpf .une l.1 l.1
    let cst_1 := FloatOps.ofBits .f32 0x7FC00000#32
    let v5 := Scalar.select v4 cst_1 v3
    let cst_2 := FloatOps.ofBits .f32 0x00000000#32
    let v6 := FloatOps.cmpf .oeq r.1 cst_2
    let cst_3 := FloatOps.ofBits .f32 0x00000000#32
    let v7 := Scalar.select v6 cst_3 r.1
    let v8 := FloatOps.cmpf .une r.1 r.1
    let cst_4 := FloatOps.ofBits .f32 0x7FC00000#32
    let v9 := Scalar.select v8 cst_4 v7
    let v10 := FloatOps.cmpfTotal .lt v5 v9
    v10
def gather_S256x4096_S256x8x1_S256x8_n_1_0_0_1_2_11 : GatherDims S256x4096 S256x8x1 S256x8 where
  offsetDims := []
  collapsedSliceDims := [1]
  operandBatchingDims := [0]
  startIndicesBatchingDims := [0]
  startIndexMap := [1]
  indexVectorDim := 2
  sliceSizes := ![1, 1]
  wf := gather_S256x4096_S256x8x1_S256x8_n_1_0_0_1_2_11_wf

def fn_argsort {F : FTy → Type} [FloatOps F] (arg0 : FVec F S256x4096 .f32) : IVec S256x4096 32 :=
  let v0 : IVec S256x4096 32 := iotaInDim S256x4096 32 1
  let v1_0 : FVec F S256x4096 .f32 := (fun x y => (Host.sort2 S256x4096 1 comparator_f32_i32_d1 x y).1) arg0 v0
  let v1_1 : IVec S256x4096 32 := (fun x y => (Host.sort2 S256x4096 1 comparator_f32_i32_d1 x y).2) arg0 v0
  v1_1

def fn_take_along_axis {F : FTy → Type} [FloatOps F] (arg0 : FVec F S256x4096 .f32) (arg1 : IVec S256x8 32) : FVec F S256x8 .f32 :=
  let c : IVec S_ 32 := constantI S_ 32 0#32
  let v0 : IVec S256x8 32 := broadcastInDim S256x8 ![] bcast_S_S256x8 c
  let v1 : IVec S256x8 1 := cmpi .slt arg1 v0
  let c_0 : IVec S_ 32 := constantI S_ 32 4096#32
  let v2 : IVec S256x8 32 := broadcastInDim S256x8 ![] bcast_S_S256x8 c_0
  let v3 : IVec S256x8 32 := addi arg1 v2
  let v4 : IVec S256x8 32 := select v1 v3 arg1
  let v5 : IVec S256x8x1 32 := shapeCast S256x8x1 v4 shapeCasts_S256x8_S256x8x1
  let c_1 : IVec S1 32 := constantI S1 32 4095#32
  let c_2 : IVec S_ 32 := constantI S_ 32 0#32
  let v6 : IVec S256x8x1 32 := broadcastInDim S256x8x1 ![] bcast_S_S256x8x1 c_2
  let v7 : IVec S256x8x1 1 := cmpi .sge v5 v6
  let v8 : IVec S1x1x1 32 := broadcastInDim S1x1x1 ![2] bcast_S1_S1x1x1_2 c_1
  let v9 : IVec S256x8x1 32 := broadcastInDim S256x8x1 ![0, 1, 2] bcast_S1x1x1_S256x8x1_0_1_2 v8
  let v10 : IVec S256x8x1 1 := cmpi .sle v5 v9
  let v11 : IVec S256x8x1 1 := andi v7 v10
  let c_3 : IVec S_ 1 := constantI S_ 1 1#1
  let v12 : IVec S256x8 1 := (fun x v => Host.reduce IntOp.andi x v reducesTo_S256x8x1_S256x8_d2 h_S_) v11 c_3
  let v13 : FVec F S256x8 .f32 := (fun x i => Host.gather gather_S256x4096_S256x8x1_S256x8_n_1_0_0_1_2_11 x i) arg0 v5
  let cst : FVec F S_ .f32 := constant S_ .f32 0x7FC00000#32
  let v14 : FVec F S256x8 .f32 := broadcastInDim S256x8 ![] bcast_S_S256x8 cst
  let v15 : FVec F S256x8 .f32 := select v12 v13 v14
  v15

def fn_part1 {F : FTy → Type} [FloatOps F] (main_v3 : FVec F S256x8 .f32) (main_v22 : IVec S256x8 1) : IVec S256x8 1 :=
  let main_cst : FVec F S_ .f32 := constant S_ .f32 0xFF800000#32
  let main_v23 : FVec F S256x8 .f32 := broadcastInDim S256x8 ![] bcast_S_S256x8 main_cst
  let main_v24 : IVec S256x8 1 := cmpf .oeq main_v3 main_v23
  let main_v25 : IVec S256x8 1 := ori main_v22 main_v24
  main_v25

def fn {F : FTy → Type} [FloatOps F] (main_arg0 : FVec F S256x4096 .f32) : IVec S256x8 1 :=
  let main_v0 : FVec F S256x4096 .f32 := Host.negf main_arg0
  let main_v1 : IVec S256x4096 32 := fn_argsort (F := F) main_v0
  let main_v2 : IVec S256x8 32 := (extractStridedSlice S256x8 ![0, 0] · slices_S256x4096_S256x8_0_0) main_v1
  let main_v3 : FVec F S256x8 .f32 := fn_take_along_axis (F := F) main_arg0 main_v2
  let main_v4 : FVec F S256x7 .f32 := (extractStridedSlice S256x7 ![0, 1] · slices_S256x8_S256x7_0_1) main_v3
  let main_v5 : FVec F S256x7 .f32 := (extractStridedSlice S256x7 ![0, 0] · slices_S256x8_S256x7_0_0) main_v3
  let main_v6 : IVec S256x7 1 := cmpf .olt main_v4 main_v5
  let main_c : IVec S_ 1 := constantI S_ 1 1#1
  let main_v7 : IVec S256x1 1 := broadcastInDim S256x1 ![] bcast_S_S256x1 main_c
  let main_v8 : IVec S256x1 1 := (extractStridedSlice S256x1 ![0, 0] · slices_S256x7_S256x1_0_0) main_v6
  let main_v9 : IVec S256x1 1 := andi main_v7 main_v8
  let main_v10 : IVec S256x1 1 := (extractStridedSlice S256x1 ![0, 1] · slices_S256x7_S256x1_0_1) main_v6
  let main_v11 : IVec S256x1 1 := andi main_v9 main_v10
  let main_v12 : IVec S256x1 1 := (extractStridedSlice S256x1 ![0, 2] · slices_S256x7_S256x1_0_2) main_v6
  let main_v13 : IVec S256x1 1 := andi main_v11 main_v12
  let main_v14 : IVec S256x1 1 := (extractStridedSlice S256x1 ![0, 3] · slices_S256x7_S256x1_0_3) main_v6
  let main_v15 : IVec S256x1 1 := andi main_v13 main_v14
  let main_v16 : IVec S256x1 1 := (extractStridedSlice S256x1 ![0, 4] · slices_S256x7_S256x1_0_4) main_v6
  let main_v17 : IVec S256x1 1 := andi main_v15 main_v16
  let main_v18 : IVec S256x1 1 := (extractStridedSlice S256x1 ![0, 5] · slices_S256x7_S256x1_0_5) main_v6
  let main_v19 : IVec S256x1 1 := andi main_v17 main_v18
  let main_v20 : IVec S256x1 1 := (extractStridedSlice S256x1 ![0, 6] · slices_S256x7_S256x1_0_6) main_v6
  let main_v21 : IVec S256x1 1 := andi main_v19 main_v20
  let main_v22 : IVec S256x8 1 := concatenate S256x8 1 [⟨S256x1, main_v7⟩, ⟨S256x1, main_v9⟩, ⟨S256x1, main_v11⟩, ⟨S256x1, main_v13⟩, ⟨S256x1, main_v15⟩, ⟨S256x1, main_v17⟩, ⟨S256x1, main_v19⟩, ⟨S256x1, main_v21⟩] concatenates_S256x1_S256x1_S256x1_S256x1_S256x1_S256x1_S256x1_S256x1_S256x8_d1
  fn_part1 (F := F) main_v3 main_v22
-- ==== Kernel.lean ====
abbrev S256x1024 : Shape := ⟨2, ![256, 1024]⟩
abbrev S256x8 : Shape := ⟨2, ![256, 8]⟩
abbrev S4x256x8 : Shape := ⟨3, ![4, 256, 8]⟩
abbrev S3 : Shape := ⟨1, ![3]⟩
abbrev S_ : Shape := ⟨0, ![]⟩
abbrev S256 : Shape := ⟨1, ![256]⟩
abbrev S256x1 : Shape := ⟨2, ![256, 1]⟩
abbrev S1x256x8 : Shape := ⟨3, ![1, 256, 8]⟩
abbrev S1 : Shape := ⟨1, ![1]⟩
abbrev S256x32 : Shape := ⟨2, ![256, 32]⟩

abbrev nBuf : Space → Nat
  | .hbm => 2
  | .vmem => 3
  | .smem => 0
  | _ => 0

abbrev bufTy : (tb : Table) → Fin (tcTables nBuf tb) → BufTy
  | .hbm, ⟨0, _⟩ => ⟨S256x1024, .f32⟩
  | .hbm, ⟨1, _⟩ => ⟨S256x8, .f32⟩
  | .local _ .vmem, ⟨0, _⟩ => ⟨S256x1024, .f32⟩
  | .local _ .vmem, ⟨1, _⟩ => ⟨S256x8, .f32⟩
  | .local _ .vmem, ⟨2, _⟩ => ⟨S4x256x8, .f32⟩
  | _, _ => ⟨S256x1024, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 1 → Bool
  | ⟨0, _⟩ => false
  | _ => false

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  (ofTc nBuf bufTy 1 8 bufScoped semScoped dmaSemScoped tileCredit tileCredit_eq_zero tileCredit_pos).withBarriers [(0, 0)]

abbrev main_arg0 : Ref sig .tc := ⟨.hbm, 0, rfl⟩
abbrev main_v1 : Ref sig .tc := ⟨.hbm, 1, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1
abbrev barrier0 : Sem sig := 0

abbrev nD : Nat := 4
abbrev τ : Topo := Topo.v7x

variable {F : FTy → Type} [FloatOps F]

abbrev grid0 : Pipeline.Grid := .none

def k0_dev1 (d0 : Dev nD) : Nat :=
  let c0_i32 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_0 : BitVec 32 := 1#32
  let v4 : BitVec 32 := Scalar.addi v2 c1_i32_0
  let c4_i32_1 : BitVec 32 := 4#32
  let v5 : BitVec 32 := Scalar.remsi v4 c4_i32_1
  let c1_i32_3 : BitVec 32 := 1#32
  let v6 : BitVec 32 := Scalar.muli v5 c1_i32_3
  let v7 : BitVec 32 := Scalar.addi c0_i32 v6
  v7.toNat
def k0_dev2 (d0 : Dev nD) : Nat :=
  let c0_i32_7 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32 : BitVec 32 := 2#32
  let v8 : BitVec 32 := Scalar.addi v2 c2_i32
  let c4_i32_4 : BitVec 32 := 4#32
  let v9 : BitVec 32 := Scalar.remsi v8 c4_i32_4
  let c1_i32_6 : BitVec 32 := 1#32
  let v10 : BitVec 32 := Scalar.muli v9 c1_i32_6
  let v11 : BitVec 32 := Scalar.addi c0_i32_7 v10
  v11.toNat
def k0_dev3 (d0 : Dev nD) : Nat :=
  let c0_i32_11 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32 : BitVec 32 := 3#32
  let v12 : BitVec 32 := Scalar.addi v2 c3_i32
  let c4_i32_8 : BitVec 32 := 4#32
  let v13 : BitVec 32 := Scalar.remsi v12 c4_i32_8
  let c1_i32_10 : BitVec 32 := 1#32
  let v14 : BitVec 32 := Scalar.muli v13 c1_i32_10
  let v15 : BitVec 32 := Scalar.addi c0_i32_11 v14
  v15.toNat
def k0_off1 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let v64 : Index := Scalar.indexCast v2
  let c0_28 : Index := 0#32
  let c0_29 : Index := 0#32
  ![v64.toNat, 0, 0]
def k0_off2 (d0 : Dev nD) : Fin 3 → Nat :=
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c0_i32_36 : BitVec 32 := 0#32
  let c0_i32_37 : BitVec 32 := 0#32
  ![v2.toNat, 0, 0]
def k0_dev4 (d0 : Dev nD) : Nat :=
  let c0_i32_35 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c1_i32_30 : BitVec 32 := 1#32
  let v68 : BitVec 32 := Scalar.addi v2 c1_i32_30
  let c4_i32_31 : BitVec 32 := 4#32
  let v69 : BitVec 32 := Scalar.remsi v68 c4_i32_31
  let c1_i32_34 : BitVec 32 := 1#32
  let v70 : BitVec 32 := Scalar.muli v69 c1_i32_34
  let v71 : BitVec 32 := Scalar.addi c0_i32_35 v70
  v71.toNat
def k0_dev5 (d0 : Dev nD) : Nat :=
  let c0_i32_45 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c2_i32_40 : BitVec 32 := 2#32
  let v80 : BitVec 32 := Scalar.addi v2 c2_i32_40
  let c4_i32_41 : BitVec 32 := 4#32
  let v81 : BitVec 32 := Scalar.remsi v80 c4_i32_41
  let c1_i32_44 : BitVec 32 := 1#32
  let v82 : BitVec 32 := Scalar.muli v81 c1_i32_44
  let v83 : BitVec 32 := Scalar.addi c0_i32_45 v82
  v83.toNat
def k0_dev6 (d0 : Dev nD) : Nat :=
  let c0_i32_55 : BitVec 32 := 0#32
  let v0 : BitVec 32 := Dev.word d0
  let c1_i32 : BitVec 32 := 1#32
  let v1 : BitVec 32 := Scalar.divsi v0 c1_i32
  let c4_i32 : BitVec 32 := 4#32
  let v2 : BitVec 32 := Scalar.remsi v1 c4_i32
  let c3_i32_50 : BitVec 32 := 3#32
  let v92 : BitVec 32 := Scalar.addi v2 c3_i32_50
  let c4_i32_51 : BitVec 32 := 4#32
  let v93 : BitVec 32 := Scalar.remsi v92 c4_i32_51
  let c1_i32_54 : BitVec 32 := 1#32
  let v94 : BitVec 32 := Scalar.muli v93 c1_i32_54
  let v95 : BitVec 32 := Scalar.addi c0_i32_55 v94
  v95.toNat
abbrev stage0_0 : Fin 1 → Memref sig .tc .vmem S256x1024 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S256x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
-- ==== ReferenceIdeal.lean ====
abbrev S256x4096 : Shape := ⟨2, ![256, 4096]⟩
abbrev S256x8 : Shape := ⟨2, ![256, 8]⟩
abbrev S_ : Shape := ⟨0, ![]⟩
abbrev S256x8x1 : Shape := ⟨3, ![256, 8, 1]⟩
abbrev S1 : Shape := ⟨1, ![1]⟩
abbrev S1x1x1 : Shape := ⟨3, ![1, 1, 1]⟩

abbrev nBuf : Space → Nat
  | .hbm => 28
  | .vmem => 0
  | .smem => 0
  | _ => 0

abbrev bufTy : (tb : Table) → Fin (tcTables nBuf tb) → BufTy
  | .hbm, ⟨0, _⟩ => ⟨S256x4096, .f32⟩
  | .hbm, ⟨1, _⟩ => ⟨S256x4096, .f32⟩
  | .hbm, ⟨2, _⟩ => ⟨S256x4096, .i32⟩
  | .hbm, ⟨3, _⟩ => ⟨S256x4096, .f32⟩
  | .hbm, ⟨4, _⟩ => ⟨S256x4096, .i32⟩
  | .hbm, ⟨5, _⟩ => ⟨S256x8, .i32⟩
  | .hbm, ⟨6, _⟩ => ⟨S_, .i32⟩
  | .hbm, ⟨7, _⟩ => ⟨S256x8, .i32⟩
  | .hbm, ⟨8, _⟩ => ⟨S256x8, .i1⟩
  | .hbm, ⟨9, _⟩ => ⟨S_, .i32⟩
  | .hbm, ⟨10, _⟩ => ⟨S256x8, .i32⟩
  | .hbm, ⟨11, _⟩ => ⟨S256x8, .i32⟩
  | .hbm, ⟨12, _⟩ => ⟨S256x8, .i32⟩
  | .hbm, ⟨13, _⟩ => ⟨S256x8x1, .i32⟩
  | .hbm, ⟨14, _⟩ => ⟨S1, .i32⟩
  | .hbm, ⟨15, _⟩ => ⟨S_, .i32⟩
  | .hbm, ⟨16, _⟩ => ⟨S256x8x1, .i32⟩
  | .hbm, ⟨17, _⟩ => ⟨S256x8x1, .i1⟩
  | .hbm, ⟨18, _⟩ => ⟨S1x1x1, .i32⟩
  | .hbm, ⟨19, _⟩ => ⟨S256x8x1, .i32⟩
  | .hbm, ⟨20, _⟩ => ⟨S256x8x1, .i1⟩
  | .hbm, ⟨21, _⟩ => ⟨S256x8x1, .i1⟩
  | .hbm, ⟨22, _⟩ => ⟨S_, .i1⟩
  | .hbm, ⟨23, _⟩ => ⟨S256x8, .i1⟩
  | .hbm, ⟨24, _⟩ => ⟨S256x8, .f32⟩
  | .hbm, ⟨25, _⟩ => ⟨S_, .f32⟩
  | .hbm, ⟨26, _⟩ => ⟨S256x8, .f32⟩
  | .hbm, ⟨27, _⟩ => ⟨S256x8, .f32⟩
  | _, _ => ⟨S256x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_call0_v0 : Ref sig .tc := ⟨.hbm, 2, rfl⟩
abbrev main_call0_v1_0 : Ref sig .tc := ⟨.hbm, 3, rfl⟩
abbrev main_v1 : Ref sig .tc := ⟨.hbm, 4, rfl⟩
abbrev main_v2 : Ref sig .tc := ⟨.hbm, 5, rfl⟩
abbrev main_call1_c : Ref sig .tc := ⟨.hbm, 6, rfl⟩
abbrev main_call1_v0 : Ref sig .tc := ⟨.hbm, 7, rfl⟩
abbrev main_call1_v1 : Ref sig .tc := ⟨.hbm, 8, rfl⟩
abbrev main_call1_c_0 : Ref sig .tc := ⟨.hbm, 9, rfl⟩
abbrev main_call1_v2 : Ref sig .tc := ⟨.hbm, 10, rfl⟩
abbrev main_call1_v3 : Ref sig .tc := ⟨.hbm, 11, rfl⟩
abbrev main_call1_v4 : Ref sig .tc := ⟨.hbm, 12, rfl⟩
abbrev main_call1_v5 : Ref sig .tc := ⟨.hbm, 13, rfl⟩
abbrev main_call1_c_1 : Ref sig .tc := ⟨.hbm, 14, rfl⟩
abbrev main_call1_c_2 : Ref sig .tc := ⟨.hbm, 15, rfl⟩
abbrev main_call1_v6 : Ref sig .tc := ⟨.hbm, 16, rfl⟩
abbrev main_call1_v7 : Ref sig .tc := ⟨.hbm, 17, rfl⟩
abbrev main_call1_v8 : Ref sig .tc := ⟨.hbm, 18, rfl⟩
abbrev main_call1_v9 : Ref sig .tc := ⟨.hbm, 19, rfl⟩
abbrev main_call1_v10 : Ref sig .tc := ⟨.hbm, 20, rfl⟩
abbrev main_call1_v11 : Ref sig .tc := ⟨.hbm, 21, rfl⟩
abbrev main_call1_c_3 : Ref sig .tc := ⟨.hbm, 22, rfl⟩
abbrev main_call1_v12 : Ref sig .tc := ⟨.hbm, 23, rfl⟩
abbrev main_call1_v13 : Ref sig .tc := ⟨.hbm, 24, rfl⟩
abbrev main_call1_cst : Ref sig .tc := ⟨.hbm, 25, rfl⟩
abbrev main_call1_v14 : Ref sig .tc := ⟨.hbm, 26, rfl⟩
abbrev main_v3 : Ref sig .tc := ⟨.hbm, 27, rfl⟩

abbrev nD : Nat := 1
abbrev τ : Topo := Topo.v7x

variable {F : FTy → Type} [FloatOps F]
-- ==== Proof.Exchange.lean ====
/-
# The exchange between the four devices

Every device keeps the eight largest values of each row of its own block in its own slot of a table of four slots,
sends that slot to the three other devices and receives theirs. This module states what the devices agree on: the
semaphores' cells, what each signal and each transfer hands over, what a device owes when it starts, and in which order
the cells may be waited on. The body and the launch are in `Body` and `Launch`.

A device signals the barrier semaphore of each of its three peers and waits for three units on its own. The signal to a
peer hands over the slot that this peer will write. The transfers then read one and the same slot at the source, each
with a share of it.
-/
module

public import proofs.«01_k».proof.Proof.Gen.KernelIdeal
public import proofs.«01_k».proof.Proof.Gen.KernelIdeal.Skeleton
public import proofs.«01_k».proof.Proof.Gen.KernelIdeal.Launch
public import Idealize.ShloMosaic.Lib.Pipeline.Launch
public import Idealize.ShloMosaic.Lib.Pipeline.Kit
public import Idealize.ShloMosaic.Lib.Tactic

@[expose] public section

set_option backward.proofsInPublic true

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

/-! ## The ghost state: one copy for the pipeline, one for the exchange (three duty names) -/

abbrev UX : Type := URounds (GSem nD τ sig) (Fin 3)
abbrev UU : Type := UR sig nD τ × UX

local notation "𝕄" => MT nD τ sig Unit (Elt F) ℕ UU ℕ

abbrev EP : Emb (UR sig nD τ) (MT nD τ sig Unit (Elt F) ℕ UU ℕ) := embL
abbrev EX : Emb UX (MT nD τ sig Unit (Elt F) ℕ UU ℕ) := embR

variable (m : (ℓ : Loc nD τ sig) → Buf (Elt F) ℓ) (ρ : Dev nD → PrngReg)

/-- The memory at the start: any contents, every semaphore at zero. -/
def start₀ : MemSt nD τ sig (Elt F) := ⟨m, fun _ => 0, ρ⟩

/-! ## The peers -/

/-- The device `o + 1` places after `c`. -/
def peer (o : Fin 3) (c : Dev nD) : Dev nD := ⟨(c.val + (o.val + 1)) % 4, Nat.mod_lt _ (by decide)⟩
/-- The number under which the peer sees the device: from `o + 1` places after, it is `3 - o` places back to it. -/
def opp (o : Fin 3) : Fin 3 := ⟨2 - o.val, by omega⟩
/-- The device `o + 1` places before `c`. -/
def src (o : Fin 3) (c : Dev nD) : Dev nD := peer (opp o) c

theorem opp_opp (o : Fin 3) : opp (opp o) = o := by revert o; decide
theorem src_peer (o : Fin 3) (c : Dev nD) : src o (peer o c) = c := by revert o c; decide
theorem peer_src (o : Fin 3) (c : Dev nD) : peer o (src o c) = c := by revert o c; decide
theorem peer_inj (o : Fin 3) {c d : Dev nD} (h : peer o c = peer o d) : c = d := by
  rw [← src_peer o c, h, src_peer]

def turn (o : Fin 3) : Dev nD ≃ Dev nD := ⟨peer o, src o, src_peer o, peer_src o⟩

/-- The device numbers that the kernel computes, for the signals and for the transfers. -/
theorem dev1_eq (c : Dev nD) : (⟨k0_dev1 c, k0_dev1_lt c⟩ : Dev nD) = peer 0 c := Fin.ext (k0_dev1_eq c)
theorem dev2_eq (c : Dev nD) : (⟨k0_dev2 c, k0_dev2_lt c⟩ : Dev nD) = peer 1 c := Fin.ext (k0_dev2_eq c)
theorem dev3_eq (c : Dev nD) : (⟨k0_dev3 c, k0_dev3_lt c⟩ : Dev nD) = peer 2 c := Fin.ext (k0_dev3_eq c)
theorem dev4_eq (c : Dev nD) : (⟨k0_dev4 c, k0_dev4_lt c⟩ : Dev nD) = peer 0 c := Fin.ext (k0_dev4_eq c)
theorem dev5_eq (c : Dev nD) : (⟨k0_dev5 c, k0_dev5_lt c⟩ : Dev nD) = peer 1 c := Fin.ext (k0_dev5_eq c)
theorem dev6_eq (c : Dev nD) : (⟨k0_dev6 c, k0_dev6_lt c⟩ : Dev nD) = peer 2 c := Fin.ext (k0_dev6_eq c)

/-! ## The buffers and the cells -/

abbrev xM : Memref sig .tc .vmem S256x1024 .f32 := Memref.whole cc0_stg0_0
abbrev oM : Memref sig .tc .vmem S256x8 .f32 := Memref.whole cc0_stg1_0
abbrev tM : Memref sig .tc .vmem S4x256x8 .f32 := Memref.whole cc0_scratch0

/-- Slot `j` of the table, as the transfers name it. -/
abbrev slotM (j : Dev nD) : Memref sig .tc .vmem S256x8 .f32 :=
  (tM.slice (Rect.unit (s := S4x256x8) (k0_off2 j) S1x256x8.size (k0_off2_inb j)) (fun _ => rfl)).squeeze S256x8 squeezes_S1x256x8_S256x8

abbrev barS : Sem sig := (SemArray.scalar (sig.barrier 0 rfl) : Sems sig S_).sem
/-- The semaphores of the three sends and of the three receives. -/
def sendS (o : Fin 3) : DmaSem sig := ⟨2 + o.val, by have := o.isLt; show 2 + o.val < 8; omega⟩
def recvS (o : Fin 3) : DmaSem sig := ⟨5 + o.val, by have := o.isLt; show 5 + o.val < 8; omega⟩

theorem send0_eq : ((cc0_scratch1.slice (Rect.unit ![0] S1.size inb_S3_S1_0)).squeeze S_ squeezes_S1_S_ : DmaSems sig S_).sem = sendS 0 := by decide
theorem send1_eq : ((cc0_scratch1.slice (Rect.unit ![1] S1.size inb_S3_S1_1)).squeeze S_ squeezes_S1_S_ : DmaSems sig S_).sem = sendS 1 := by decide
theorem send2_eq : ((cc0_scratch1.slice (Rect.unit ![2] S1.size inb_S3_S1_2)).squeeze S_ squeezes_S1_S_ : DmaSems sig S_).sem = sendS 2 := by decide
theorem recv0_eq : ((cc0_scratch2.slice (Rect.unit ![0] S1.size inb_S3_S1_0)).squeeze S_ squeezes_S1_S_ : DmaSems sig S_).sem = recvS 0 := by decide
theorem recv1_eq : ((cc0_scratch2.slice (Rect.unit ![1] S1.size inb_S3_S1_1)).squeeze S_ squeezes_S1_S_ : DmaSems sig S_).sem = recvS 1 := by decide
theorem recv2_eq : ((cc0_scratch2.slice (Rect.unit ![2] S1.size inb_S3_S1_2)).squeeze S_ squeezes_S1_S_ : DmaSems sig S_).sem = recvS 2 := by decide

abbrev barCell (c : Dev nD) : GSem nD τ sig := ((c : Thread nD τ), .reg barS)
abbrev sendCell (o : Fin 3) (c : Dev nD) : GSem nD τ sig := ((c : Thread nD τ), .dma (sendS o))
abbrev recvCell (o : Fin 3) (c : Dev nD) : GSem nD τ sig := ((c : Thread nD τ), .dma (recvS o))

/-- A device's seven cells: the barrier (`none`), the sends (`false`) and the receives (`true`). -/
abbrev CK : Type := Option (Bool × Fin 3)
def csem : CK → SemLoc sig
  | none => .reg barS
  | some (false, o) => .dma (sendS o)
  | some (true, o) => .dma (recvS o)
abbrev kcell (ck : Dev nD × CK) : GSem nD τ sig := ((ck.1 : Thread nD τ), csem ck.2)

/-- What a DMA semaphore is used for. -/
def role (q : DmaSem sig) : Option (Bool × Fin 3) :=
  if q = sendS 0 then some (false, 0) else if q = sendS 1 then some (false, 1) else if q = sendS 2 then some (false, 2)
  else if q = recvS 0 then some (true, 0) else if q = recvS 1 then some (true, 1) else if q = recvS 2 then some (true, 2) else none
theorem role_send (o : Fin 3) : role (sendS o) = some (false, o) := by revert o; decide
theorem role_recv (o : Fin 3) : role (recvS o) = some (true, o) := by revert o; decide
theorem recvS_inj {o o' : Fin 3} (h : recvS o = recvS o') : o = o' := by revert o o'; decide
theorem sendS_inj {o o' : Fin 3} (h : sendS o = sendS o') : o = o' := by revert o o'; decide

/-- What one transfer of a slot credits. -/
abbrev N : ℕ := (slotM 0).view.dmaCredit
theorem N_pos : 0 < N := View.dmaCredit_pos _ (by decide)

/-! ## The slots -/

theorem slotM_set (j : Dev nD) : (slotM j).view.set = (Rect.unit (s := S4x256x8) (k0_off2 j) S1x256x8.size (k0_off2_inb j)).set := by
  exact (View.set_reshape _ _).trans (View.set_slice_whole _ _)

/-- Slot `j` is the entries whose first coordinate is `j`. -/
theorem mem_slot (j : Dev nD) (i : S4x256x8.Idx) : i ∈ (slotM j).view.set ↔ (i 0).val = j.val := by
  rw [slotM_set, Rect.mem_set_unit, k0_off2_eq]
  constructor
  · intro h
    have h0 := h 0
    have e1 : (![j.val, 0, 0] : Fin 3 → Nat) 0 = j.val := rfl
    have e2 : S1x256x8.size 0 = 1 := rfl
    rw [e1, e2] at h0
    omega
  · intro h a
    have h1 : (i 1).val < 256 := (i 1).isLt
    have h2 : (i 2).val < 8 := (i 2).isLt
    fin_cases a
    · show j.val ≤ (i 0).val ∧ (i 0).val < j.val + 1
      omega
    · show 0 ≤ (i 1).val ∧ (i 1).val < 0 + 256
      omega
    · show 0 ≤ (i 2).val ∧ (i 2).val < 0 + 8
      omega

theorem slot_disjoint {j k : Dev nD} (h : j ≠ k) : Disjoint (slotM j).view.set (slotM k).view.set := by
  refine Finset.disjoint_left.mpr fun i hj hk => h (Fin.ext ?_)
  rw [← (mem_slot j i).mp hj]
  exact (mem_slot k i).mp hk

theorem slots_cover : (Finset.univ.biUnion fun j : Dev nD => (slotM j).view.set) = (Finset.univ : Finset S4x256x8.Idx) := by
  refine Finset.eq_univ_of_forall fun i => Finset.mem_biUnion.mpr ⟨⟨(i 0).val, (i 0).isLt⟩, Finset.mem_univ _, ?_⟩
  exact (mem_slot _ i).mpr rfl

/-! ## Contents -/

/-- Device `c`'s block of the argument, as staged. -/
def xstg (c : Dev nD) : (cc0_stg0_0 : Ref sig .tc).ty.Contents (Elt F) :=
  (win0_0.blk (0 : Fin 1)).view.read (Elt F) ((start₀ m ρ).mem ((c : Thread nD τ).loc main_arg0))

/-- The eight largest values of each row of device `c`'s block, as the kernel computes them. -/
def best (c : Dev nD) : FVec F S1x256x8 .f32 := k0_pay6 (k0_pay2 (xstg m ρ c)) (k0_pay4 (xstg m ρ c)) (k0_pay5 (xstg m ρ c))

/-- An index of the table, seen inside its slot. -/
def within (i : S4x256x8.Idx) : S1x256x8.Idx := fun a => match a with
  | ⟨0, _⟩ => (0 : Fin 1)
  | ⟨1, _⟩ => i 1
  | ⟨2, _⟩ => i 2

/-- The table that all devices end with: slot `j` holds what device `j` computed. -/
def gathered : (cc0_scratch0 : Ref sig .tc).ty.Contents (Elt F) := fun i : S4x256x8.Idx => best m ρ (i 0) (within i)

theorem gathered_emb (j : Dev nD) {off : Fin 3 → Nat} {inb : ∀ a, off a + S1x256x8.size a ≤ S4x256x8.size a} (hoff : off = ![j.val, 0, 0])
    (x : S1x256x8.Idx) : gathered m ρ ((Rect.unit (s := S4x256x8) off S1x256x8.size inb).emb x) = best m ρ j x := by
  subst hoff
  have e0 : ((Rect.unit (s := S4x256x8) ![j.val, 0, 0] S1x256x8.size inb).emb x) 0 = j := by
    refine Fin.ext ?_
    have h : (x 0).val < 1 := (x 0).isLt
    show j.val + 1 * (x 0).val = j.val
    omega
  have e1 : within ((Rect.unit (s := S4x256x8) ![j.val, 0, 0] S1x256x8.size inb).emb x) = x := by
    funext a
    fin_cases a
    · exact (Subsingleton.elim (α := Fin 1) _ _)
    · refine Fin.ext ?_
      show 0 + 1 * (x 1).val = (x 1).val
      omega
    · refine Fin.ext ?_
      show 0 + 1 * (x 2).val = (x 2).val
      omega
  unfold gathered
  rw [e1]
  exact congrArg (fun d => best m ρ d x) e0

/-- Slot `j` of device `c`'s table, at a share. -/
def slotPts (c j : Dev nD) (q : PosShare TreeShare) (f : (cc0_scratch0 : Ref sig .tc).ty.Contents (Elt F)) : sProp 𝕄 :=
  (slotM j).view.loc (c : Thread nD τ) ↦[(slotM j).view.set]{q} f

instance slotPts_storable (c j : Dev nD) (q) (f) : BI.Storable (upEmb : UEmb _ 𝕄) (slotPts (F := F) c j q f) := by unfold slotPts; infer_instance

theorem slotPts_congr (c j : Dev nD) (q) {f g : (cc0_scratch0 : Ref sig .tc).ty.Contents (Elt F)}
    (h : ∀ i ∈ (slotM j).view.set, f i = g i) : (slotPts c j q f : sProp 𝕄) = slotPts c j q g := by
  unfold slotPts; exact pointsTo_congr h

/-- The whole table is its four slots. -/
theorem table_slots (c : Dev nD) (f : (cc0_scratch0 : Ref sig .tc).ty.Contents (Elt F)) :
    (((c : Thread nD τ).loc cc0_scratch0) ↦{fullShare} f : sProp 𝕄) = bigSep Finset.univ fun j : Dev nD => slotPts c j fullShare f := by
  unfold slotPts
  rw [← pointsTo_biUnion (ℓ := (c : Thread nD τ).loc cc0_scratch0) Finset.univ (fun j : Dev nD => (slotM j).view.set) fun a _ b _ h => slot_disjoint h]
  rw [slots_cover]

/-- The four devices, from `c` on. -/
theorem bigSep_from (c : Dev nD) (Φ : Dev nD → sProp 𝕄) :
    bigSep Finset.univ Φ = iprop(Φ c ∗ Φ (peer 0 c) ∗ Φ (peer 1 c) ∗ Φ (peer 2 c)) :=
  bigSep_univ_eq_bigSepL [c, peer 0 c, peer 1 c, peer 2 c] (by revert c; decide) (by revert c; decide) Φ

/-- The shares of the source slot that the three transfers hold. -/
def part : Fin 3 → PosShare TreeShare
  | 0 => fullShare.left
  | 1 => fullShare.right.left
  | 2 => fullShare.right.right

theorem slot_parts (c j : Dev nD) (f) : (slotPts c j fullShare f : sProp 𝕄)
    = iprop(slotPts c j (part 0) f ∗ slotPts c j (part 1) f ∗ slotPts c j (part 2) f) := by
  unfold slotPts part
  rw [BI.Entails.antisymm (pointsTo_share (PosShare.mem_left_op_right fullShare)).1 (pointsTo_share (PosShare.mem_left_op_right fullShare)).2,
    BI.Entails.antisymm (pointsTo_share (PosShare.mem_left_op_right fullShare.right)).1 (pointsTo_share (PosShare.mem_left_op_right fullShare.right)).2]

/-! ## What is handed over, and when -/

/-- What the signal of duty `o` hands to `c`. The device that pays it is `src o c`; it hands over slot `c` of its table,
    and that it waits at the start of the receive cell which the transfer from `c` will credit. -/
def barPay (c : Dev nD) (o : Fin 3) : sProp 𝕄 :=
  iprop((∃ f, slotPts (src o c) c fullShare f) ∗ reached EX (recvCell (opp o) (src o c)) 0)
/-- What a transfer hands over at its ends: at the receiver, the slot of the device it comes from; at the sender, the share
    of its own slot. -/
def dmaPay (c : Dev nD) : Option (Bool × Fin 3) → sProp 𝕄
  | none => iprop(emp)
  | some (false, o) => slotPts c c (part o) (gathered m ρ)
  | some (true, o) => slotPts c (src o c) fullShare (gathered m ρ)

/-- One round per cell. The barrier cell has three duties of one unit, one per peer; a cell of a transfer has one. -/
def plan : Rounds.Schedule (GSem nD τ sig) (Fin 3) 𝕄 where
  duties g r := if r = 0 ∧ g.1.2 = .tc then
      (match g.2 with
        | .reg s => if s = barS then Finset.univ else ∅
        | .dma q => if (role q).isSome then {0} else ∅)
    else ∅
  unitless _ := False
  amount g _ _ := match g.2 with | .reg _ => 1 | .dma _ => N
  payload g _ d := match g.2 with | .reg _ => barPay g.1.1 d | .dma q => dmaPay m ρ g.1.1 (role q)
  amount_pos g _ _ _ := by
    rcases g with ⟨t, _ | _⟩
    · exact Nat.one_pos
    · exact N_pos

instance dmaPay_storable (c : Dev nD) (k) : BI.Storable (upEmb : UEmb _ 𝕄) (dmaPay (F := F) m ρ c k) := by
  rcases k with _ | ⟨_ | _, o⟩ <;> unfold dmaPay <;> infer_instance

instance plan_payload_storable (g : GSem nD τ sig) (r : ℕ) (d : Fin 3) :
    BI.Storable (upEmb : UEmb _ 𝕄) ((plan (F := F) m ρ).payload g r d) := by
  rcases g with ⟨t, s | q⟩
  · show BI.Storable upEmb (barPay t.1 d)
    unfold barPay; infer_instance
  · show BI.Storable upEmb (dmaPay m ρ t.1 (role q))
    infer_instance

section Plan
variable (c : Dev nD) (o : Fin 3)

theorem duties_bar : (plan (F := F) m ρ).duties (barCell c) 0 = Finset.univ := by
  dsimp only [plan]; rw [if_pos ⟨rfl, rfl⟩]; exact if_pos rfl
theorem duties_send : (plan (F := F) m ρ).duties (sendCell o c) 0 = {0} := by
  dsimp only [plan]; rw [if_pos ⟨rfl, rfl⟩, role_send]; rfl
theorem duties_recv : (plan (F := F) m ρ).duties (recvCell o c) 0 = {0} := by
  dsimp only [plan]; rw [if_pos ⟨rfl, rfl⟩, role_recv]; rfl
theorem duties_later (g : GSem nD τ sig) : ∀ r, 1 ≤ r → (plan (F := F) m ρ).duties g r = ∅ :=
  fun r hr => by dsimp only [plan]; rw [if_neg fun h => by omega]

theorem amount_bar (d : Fin 3) : (plan (F := F) m ρ).amount (barCell c) 0 d = 1 := rfl
theorem amount_dma (q : DmaSem sig) (d : Fin 3) : (plan (F := F) m ρ).amount ((c : Thread nD τ), .dma q) 0 d = N := rfl

theorem expect_bar : (plan (F := F) m ρ).expect (barCell c) 0 = 3 := by
  unfold Schedule.expect Schedule.amountOf
  rw [duties_bar, Finset.sum_congr rfl fun d _ => amount_bar m ρ c d, Finset.sum_const, Finset.card_univ, Fintype.card_fin, smul_eq_mul]
theorem expect_send : (plan (F := F) m ρ).expect (sendCell o c) 0 = N := by
  unfold Schedule.expect Schedule.amountOf; rw [duties_send, Finset.sum_singleton]; rfl
theorem expect_recv : (plan (F := F) m ρ).expect (recvCell o c) 0 = N := by
  unfold Schedule.expect Schedule.amountOf; rw [duties_recv, Finset.sum_singleton]; rfl

theorem payload_bar (d : Fin 3) : (plan (F := F) m ρ).payload (barCell c) 0 d = barPay c d := rfl
theorem payload_send (d : Fin 3) : (plan (F := F) m ρ).payload (sendCell o c) 0 d = slotPts c c (part o) (gathered m ρ) := by
  show dmaPay m ρ c (role (sendS o)) = _
  rw [role_send]; rfl
theorem payload_recv (d : Fin 3) : (plan (F := F) m ρ).payload (recvCell o c) 0 d = slotPts c (src o c) fullShare (gathered m ρ) := by
  show dmaPay m ρ c (role (recvS o)) = _
  rw [role_recv]; rfl

theorem bigSep_fin3 (Φ : Fin 3 → sProp 𝕄) : bigSep Finset.univ Φ = iprop(Φ 0 ∗ Φ 1 ∗ Φ 2) := bigSep_univ_eq_bigSepL [0, 1, 2] (by decide) (by decide) Φ

theorem rest_bar : bigSep ((plan (F := F) m ρ).duties (barCell c) 0 \ ∅) (fun d => (plan (F := F) m ρ).payload (barCell c) 0 d)
    = iprop(barPay c 0 ∗ barPay c 1 ∗ barPay c 2) := by
  rw [Finset.sdiff_empty, duties_bar, bigSep_fin3]; rfl
theorem rest_send : bigSep ((plan (F := F) m ρ).duties (sendCell o c) 0 \ ∅) (fun d => (plan (F := F) m ρ).payload (sendCell o c) 0 d)
    = slotPts c c (part o) (gathered m ρ) := by
  rw [Finset.sdiff_empty, duties_send, bigSep_singleton, payload_send]
theorem rest_recv : bigSep ((plan (F := F) m ρ).duties (recvCell o c) 0 \ ∅) (fun d => (plan (F := F) m ρ).payload (recvCell o c) 0 d)
    = slotPts c (src o c) fullShare (gathered m ρ) := by
  rw [Finset.sdiff_empty, duties_recv, bigSep_singleton, payload_recv]

end Plan

/-! ## What a device owes at the start, and the order of the cells -/

/-- What remains owed after the barrier: the credits of the three transfers, the first one last. -/
def owesSends1 (c : Dev nD) : CellTallies nD τ sig Unit := 0 + tallyAt (recvCell 2 (peer 2 c)) () N
def owesSends2 (c : Dev nD) : CellTallies nD τ sig Unit := owesSends1 c + tallyAt (recvCell 1 (peer 1 c)) () N
def owesSends (c : Dev nD) : CellTallies nD τ sig Unit := owesSends2 c + tallyAt (recvCell 0 (peer 0 c)) () N
def owesAll1 (c : Dev nD) : CellTallies nD τ sig Unit := owesSends c + tallyAt (barCell (peer 2 c)) () 1
def owesAll2 (c : Dev nD) : CellTallies nD τ sig Unit := owesAll1 c + tallyAt (barCell (peer 1 c)) () 1
def owesAll (c : Dev nD) : CellTallies nD τ sig Unit := owesAll2 c + tallyAt (barCell (peer 0 c)) () 1

def L (g : GSem nD τ sig) : Finset Unit := if g.1.2 = .tc then {()} else ∅
/-- The barrier before the receives; the staging and the sends, which nobody else is owed, before both. -/
def lv (g : GSem nD τ sig) (_ : Unit) : ℕ := match g.2 with
  | .reg _ => 1
  | .dma q => match role q with
    | some (true, _) => 2
    | _ => 0

theorem L_of_ne (g : GSem nD τ sig) (h : g.1.2 ≠ .tc) : L g = ∅ := if_neg h
theorem L_tc (c : Dev nD) (sm : SemLoc sig) : L ((c : Thread nD τ), sm) = {()} := if_pos rfl
theorem lv_bar (c : Dev nD) (u : Unit) : lv (barCell c) u = 1 := rfl
theorem lv_recv (o : Fin 3) (c : Dev nD) (u : Unit) : lv (recvCell o c) u = 2 := by
  show (match role (recvS o) with | some (true, _) => 2 | _ => 0) = 2
  rw [role_recv]

theorem owesSends_pos {c : Dev nD} {g : GSem nD τ sig} {u : Unit} (h : 0 < owesSends c g u) : ∃ o, g = recvCell o (peer o c) := by
  by_contra hn
  rw [not_exists] at hn
  unfold owesSends owesSends2 owesSends1 at h
  simp only [Pi.add_apply, Finsupp.add_apply, tallyAt_apply, Pi.zero_apply, Finsupp.zero_apply] at h
  rw [if_neg (fun h' => hn 2 h'.1), if_neg (fun h' => hn 1 h'.1), if_neg (fun h' => hn 0 h'.1)] at h
  exact Nat.lt_irrefl 0 h

theorem owesAll_pos {c : Dev nD} {g : GSem nD τ sig} {u : Unit} (h : 0 < owesAll c g u) :
    (∃ o, g = recvCell o (peer o c)) ∨ ∃ o, g = barCell (peer o c) := by
  by_cases hs : 0 < owesSends c g u
  · exact Or.inl (owesSends_pos hs)
  refine Or.inr ?_
  by_contra hn
  rw [not_exists] at hn
  unfold owesAll owesAll2 owesAll1 at h
  simp only [Pi.add_apply, Finsupp.add_apply, tallyAt_apply] at h
  rw [if_neg (fun h' => hn 2 h'.1), if_neg (fun h' => hn 1 h'.1), if_neg (fun h' => hn 0 h'.1)] at h
  exact hs h

/-- A staging semaphore may be waited on while everything is owed, or nothing. -/
theorem mayWait_stage (c : Dev nD) (q : DmaSem sig) (hq : ∀ u, lv ((c : Thread nD τ), .dma q) u = 0) (O : CellTallies nD τ sig Unit)
    (hO : O = owesAll c ∨ O = 0) : (levAts L lv : sProp 𝕄) ⊢ MayWait (c : Thread nD τ) (.dma q) () O := by
  rcases hO with rfl | rfl
  · refine MayOwe.of_cut (L := L) (lev := lv) 0 (fun p hp => by rw [Finset.mem_singleton.mp hp, L_tc]; exact Finset.mem_singleton_self _)
      (fun g u hg => by rcases owesAll_pos hg with ⟨o, rfl⟩ | ⟨o, rfl⟩ <;> exact Finset.mem_singleton_self _)
      (fun p hp => by rw [Finset.mem_singleton.mp hp]; exact (hq ()).le)
      (fun g u hg => by
        rcases owesAll_pos hg with ⟨o, rfl⟩ | ⟨o, rfl⟩
        · rw [lv_recv]; decide
        · rw [lv_bar]; decide)
  · rw [MayWait_zero]; iintro -; iempintro

/-- The barrier may be waited on while only the transfers' credits are owed. -/
theorem mayWait_bar (c : Dev nD) : (levAts L lv : sProp 𝕄) ⊢ MayWait (c : Thread nD τ) (.reg barS) () (owesSends c) :=
  MayOwe.of_cut (L := L) (lev := lv) 1 (fun p hp => by rw [Finset.mem_singleton.mp hp, L_tc]; exact Finset.mem_singleton_self _)
    (fun g u hg => by obtain ⟨o, rfl⟩ := owesSends_pos hg; exact Finset.mem_singleton_self _)
    (fun p hp => by rw [Finset.mem_singleton.mp hp]; exact le_rfl)
    (fun g u hg => by obtain ⟨o, rfl⟩ := owesSends_pos hg; rw [lv_recv]; decide)

/-! ## The pipeline's data -/

theorem cfg0_N : cfg0.N = 1 := by decide
def t₀ : Fin cfg0.N := ⟨0, by rw [cfg0_N]; decide⟩
theorem fin_N (t : Fin cfg0.N) : t = t₀ := by
  obtain ⟨t, ht⟩ := t; have := cfg0_N; exact Fin.ext (by simp only [t₀]; omega)

/-- The result, the same on every device: the eight largest of the gathered candidates. -/
def outAt : (cc0_stg1_0 : Ref sig .tc).ty.Contents (Elt F) :=
  k0_pay10 (k0_pay7 (best m ρ 0) (best m ρ 1) (best m ρ 2) (best m ρ 3)) (k0_pay8 (best m ρ 0) (best m ρ 1) (best m ρ 2) (best m ρ 3))
    (k0_pay9 (best m ρ 0) (best m ρ 1) (best m ρ 2) (best m ρ 3))

/-- What everybody knows: each cell's invariant, and that each cell is at its first round. -/
def records (K : Dev nD × CK → ℕ) : sProp 𝕄 :=
  iprop((bigSep Finset.univ fun ck : Dev nD × CK => cellInv EX (plan m ρ) (K ck) (kcell ck))
    ∗ bigSep Finset.univ fun ck : Dev nD × CK => reached EX (kcell ck) 0)

instance records_persistent (K : Dev nD × CK → ℕ) : BI.Persistent (records m ρ K) := by unfold records; infer_instance

theorem inv_at (K : Dev nD × CK → ℕ) (ck : Dev nD × CK) : records m ρ K ⊢ cellInv EX (plan m ρ) (K ck) (kcell ck) :=
  sep_elim_left.trans (bigSep_elim (Finset.mem_univ ck))
theorem reached_at (K : Dev nD × CK → ℕ) (ck : Dev nD × CK) : records m ρ K ⊢ reached EX (kcell ck) 0 :=
  sep_elim_right.trans (bigSep_elim (Finset.mem_univ ck))

/-- A device's positions in its seven cells. -/
def places (c : Dev nD) : sProp 𝕄 :=
  iprop(atPos EX (barCell c) 0 ∅ 0 ∗ (atPos EX (sendCell 0 c) 0 ∅ 0 ∗ atPos EX (sendCell 1 c) 0 ∅ 0 ∗ atPos EX (sendCell 2 c) 0 ∅ 0)
    ∗ (atPos EX (recvCell 0 c) 0 ∅ 0 ∗ atPos EX (recvCell 1 c) 0 ∅ 0 ∗ atPos EX (recvCell 2 c) 0 ∅ 0))
/-- The tokens of the duties a device pays: a unit to each peer's barrier, a credit to one receive cell of each peer, and its
    own send cells' credits. -/
def payToks (c : Dev nD) : sProp 𝕄 :=
  iprop((dutyTok EX (barCell (peer 0 c)) 0 0 ∗ dutyTok EX (barCell (peer 1 c)) 0 1 ∗ dutyTok EX (barCell (peer 2 c)) 0 2)
    ∗ (dutyTok EX (sendCell 0 c) 0 0 ∗ dutyTok EX (sendCell 1 c) 0 0 ∗ dutyTok EX (sendCell 2 c) 0 0)
    ∗ (dutyTok EX (recvCell 0 (peer 0 c)) 0 0 ∗ dutyTok EX (recvCell 1 (peer 1 c)) 0 0 ∗ dutyTok EX (recvCell 2 (peer 2 c)) 0 0))

def ghost (K : Dev nD × CK → ℕ) (c : Dev nD) : sProp 𝕄 := iprop(records m ρ K ∗ places c ∗ payToks c)

/-- The credits a device may spend: its barrier's three units and its three receives. -/
def credits (c : Dev nD) : sProp 𝕄 :=
  iprop(cred (tallyAt (barCell c) () 3) ∗ cred (tallyAt (recvCell 0 c) () N) ∗ cred (tallyAt (recvCell 1 c) () N) ∗ cred (tallyAt (recvCell 2 c) () N))

def start (c : Dev nD) : sProp 𝕄 := iprop((∃ K, ghost m ρ K c) ∗ credits c ∗ levAts L lv)

def Φ₀ (c : Dev nD) : sProp 𝕄 :=
  iprop(start m ρ c ∗ ∃ f : Buf (Elt F) ((c : Thread nD τ).loc cc0_scratch0), ((c : Thread nD τ).loc cc0_scratch0) ↦{fullShare} f)
/-- At the end: the table gathered, and all seven semaphores at zero. -/
def Φ₁ (c : Dev nD) : sProp 𝕄 :=
  iprop((((c : Thread nD τ).loc cc0_scratch0) ↦{fullShare} (gathered m ρ))
    ∗ (semVal (sendCell 0 c) 0 ∗ semVal (sendCell 1 c) 0 ∗ semVal (sendCell 2 c) 0 ∗ semVal (recvCell 0 c) 0 ∗ semVal (recvCell 1 c) 0 ∗ semVal (recvCell 2 c) 0)
    ∗ semVal (barCell c) 0)

def dats (_ : Fin 1) (c : Dev nD) : Dat τ (Elt F) Unit ℕ UU ℕ cfg0 c where
  A w := (start₀ m ρ).mem ((cfg0.win w).arr.view.loc (c : Thread nD τ))
  after w _ := match w with
    | ⟨0, _⟩ => xstg m ρ c
    | ⟨1, _⟩ => outAt m ρ
  Φ t := match t with
    | ⟨0, _⟩ => Φ₀ m ρ c
    | ⟨_ + 1, _⟩ => Φ₁ m ρ c
  q _ := fullShare
  owed t := match t with
    | ⟨0, _⟩ => owesAll c
    | ⟨_ + 1, _⟩ => 0

abbrev 𝒱₀ : Variants := Variants.none

theorem fetch_0 (t : Fin cfg0.N) : (cfg0.win (0 : Fin 2)).fetch t = true := by rw [fin_N t]; rfl

end Cert.KernelIdeal.Exchange

end
-- ==== Proof.Steps.lean ====
/-
# The steps of the exchange

What the kernel's loads and stores do to the table, and one rule for each kind of step: the signal to a peer, the wait
for the peers, the transfer to a peer, and the two waits for a transfer.
-/
module

public import proofs.«01_k».proof.Proof.Exchange

@[expose] public section

set_option backward.proofsInPublic true

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## What the loads and stores do to the buffers -/

abbrev rX : Rect S256x1024 := Rect.unit (s := S256x1024) ![0, 0] S256x1024.size inb_S256x1024_S256x1024_0_0
abbrev rO : Rect S256x8 := Rect.unit (s := S256x8) ![0, 0] S256x8.size inb_S256x8_S256x8_0_0
/-- Device `c`'s own slot, as the load and the store before the transfers name it. -/
abbrev rOwn (c : Dev nD) : Rect S4x256x8 := Rect.unit (s := S4x256x8) (k0_off1 c) S1x256x8.size (k0_off1_inb c)

theorem hz : (![0, 0] : Fin 2 → Nat) = fun _ => 0 := funext fun a => by fin_cases a <;> rfl
theorem read_x (f : (cc0_stg0_0 : Ref sig .tc).ty.Contents (Elt F)) : (xM : Memref sig .tc .vmem S256x1024 .f32).view.readAt (Elt F) rX.toLoadRect f = f :=
  Memref.readAt_unit_zero (Elt F) cc0_stg0_0 hz _ f
theorem write_out (f w : (cc0_stg1_0 : Ref sig .tc).ty.Contents (Elt F)) :
    ((oM : Memref sig .tc .vmem S256x8 .f32).access rO : View sig .tc _ _ _).write (Elt F) f w Finset.univ = w :=
  Memref.write_access_unit_zero_univ (Elt F) cc0_stg1_0 hz _ f w

theorem credit_eq (c : Dev nD) : (slotM c).view.dmaCredit = N := rfl

theorem off1_eq_off2 (c : Dev nD) : k0_off1 c = k0_off2 c := (k0_off1_eq c).trans (k0_off2_eq c).symm

theorem own_access_set (c : Dev nD) : ((tM : Memref sig .tc .vmem S4x256x8 .f32).access (rOwn c) : View sig .tc _ _ _).set = (slotM c).view.set := by
  refine (View.set_slice_whole _ _).trans ((?_ : (rOwn c).set = (Rect.unit (s := S4x256x8) (k0_off2 c) S1x256x8.size (k0_off2_inb c)).set).trans (slotM_set c).symm)
  congr 1

theorem own_load_sub (c : Dev nD) : (tM : Memref sig .tc .vmem S4x256x8 .f32).view.setOn (rOwn c).toLoadRect.set ⊆ (slotM c).view.set := by
  rw [← own_access_set]
  exact (View.set_slice _ _).superset

theorem own_store_sub (c : Dev nD) : ((tM : Memref sig .tc .vmem S4x256x8 .f32).access (rOwn c) : View sig .tc _ _ _).setOn Finset.univ ⊆ (slotM c).view.set :=
  (own_access_set c).subset

/-- The store of its own candidates makes the device's own slot the gathered table's. -/
theorem own_stored (c : Dev nD) (f : (cc0_scratch0 : Ref sig .tc).ty.Contents (Elt F)) (i) (hi : i ∈ (slotM c).view.set) :
    ((tM : Memref sig .tc .vmem S4x256x8 .f32).access (rOwn c) : View sig .tc _ _ _).write (Elt F) f (best m ρ c) Finset.univ i = gathered m ρ i := by
  rw [← own_access_set] at hi
  obtain ⟨x, -, rfl⟩ := Finset.mem_map.mp hi
  rw [View.write_emb_of_mem _ _ (Finset.mem_univ x)]
  exact (gathered_emb m ρ c (k0_off1_eq c) x).symm

/-- A transfer puts the gathered table's slot at the same place of the receiver's table. -/
theorem sent (c : Dev nD) (f : (cc0_scratch0 : Ref sig .tc).ty.Contents (Elt F)) (i) (hi : i ∈ (slotM c).view.set) :
    (slotM c).view.write (Elt F) f ((slotM c).view.read (Elt F) (gathered m ρ)) Finset.univ i = gathered m ρ i := by
  obtain ⟨x, -, rfl⟩ := Finset.mem_map.mp hi
  rw [View.write_emb_of_mem _ _ (Finset.mem_univ x)]
  rfl

/-- A load of slot `j` of the gathered table gives what device `j` computed. -/
theorem read_slot (j : Dev nD) (off : Fin 3 → Nat) (inb : ∀ a, off a + S1x256x8.size a ≤ S4x256x8.size a) (hoff : off = ![j.val, 0, 0]) :
    (tM : Memref sig .tc .vmem S4x256x8 .f32).view.readAt (Elt F) (Rect.unit (s := S4x256x8) off S1x256x8.size inb).toLoadRect (gathered m ρ) = best m ρ j :=
  funext fun x => gathered_emb m ρ j hoff x

/-! ## The steps of the exchange -/

/-- The signal to the peer `o + 1` places on: the slot that this peer will write goes with it. -/
theorem wp_announce (o : Fin 3) (c : Dev nD)
    {α : Type} {Q : α → sProp 𝕄} {k : PUnit → Prog (TpuEff nD τ sig (Elt F) Λ₀ .tc) α}
    {O : CellTallies nD τ sig Unit} (O' : CellTallies nD τ sig Unit)
    (hO : O = O' + tallyAt (barCell (peer o c)) () 1) {W : Waits sig Unit} {f : (cc0_scratch0 : Ref sig .tc).ty.Contents (Elt F)} :
    iprop(records m ρ K ∗ owes (c : Thread nD τ) O W ∗ dutyTok EX (barCell (peer o c)) 0 o ∗ slotPts c (peer o c) fullShare f)
      ⊢ iprop((owes (c : Thread nD τ) O' W -∗ wp frame (wpE (defs₀ (F := F)) 𝒱₀ (c : Thread nD τ) none) Set.univ (k ⟨⟩) Q)
          -∗ wp frame (wpE (defs₀ (F := F)) 𝒱₀ (c : Thread nD τ) none) Set.univ
              (.op (.semSignal (peer o c : Thread nD τ) barS (1#32).toNat) k) Q) := by
  subst hO
  iintro ⟨#Hr, HO, Ht, Hs⟩
  ihave #HI := (inv_at m ρ K (peer o c, none)) $$ Hr
  ihave #Hre := (reached_at m ρ K (peer o c, none)) $$ Hr
  ihave #Hrv := (reached_at m ρ K (c, some (true, opp o))) $$ Hr
  iapply (Rounds.wp_signal 𝒱₀ EX (plan m ρ) (c : Thread nD τ) none (dst := (peer o c : Thread nD τ)) (κ := K (peer o c, none))
      (d := o) (by rw [duties_bar]; exact Finset.mem_univ _) ((amount_bar m ρ (peer o c) o).trans (by decide)) () O' rfl) $$ [HO Ht Hs]
  isplitr; · iexact HI
  isplitl [HO]; · iexact HO
  isplitl [Ht]; · iexact Ht
  isplitl [Hs]
  · rw [payload_bar]; unfold barPay; rw [src_peer]
    isplitl [Hs]; · iexists f; iexact Hs
    iexact Hrv
  iexact Hre

/-- The transfer, with the invariants and the reached marks in hand. -/
theorem wp_transfer_with (o : Fin 3) (c n : Dev nD)
    {α : Type} {Q : α → sProp 𝕄} {k : PUnit → Prog (TpuEff nD τ sig (Elt F) Λ₀ .tc) α}
    (hn : n = peer o c) (sS sV : DmaSem sig) (hS : sS = sendS o) (hV : sV = recvS o)
    {hsc : (slotM c : Memref sig (Dev.tc n : Thread nD τ).2.kind .vmem S256x8 .f32).view.ref.isScScratch = false}
    {hsrc : (slotM c).view.WordExact} {hdst : (slotM c).view.WordExact}
    {hsem : DmaTarget.Typed .vmem (.dma sV) (.remote (Dev.tc n : Thread nD τ) (slotM c) (.dma sS) hsc)}
    {O : CellTallies nD τ sig Unit} (O' : CellTallies nD τ sig Unit)
    (hO : O = O' + tallyAt (recvCell o (peer o c)) () N) {W : Waits sig Unit} {f : (cc0_scratch0 : Ref sig .tc).ty.Contents (Elt F)} :
    iprop(cellInv EX (plan m ρ) (K (c, some (false, o))) (sendCell o c) ∗ cellInv EX (plan m ρ) (K (peer o c, some (true, o))) (recvCell o (peer o c))
        ∗ slotPts c c (part o) (gathered m ρ) ∗ slotPts (peer o c) c fullShare f
        ∗ owes (c : Thread nD τ) O W ∗ dutyTok EX (sendCell o c) 0 0 ∗ reached EX (sendCell o c) 0
        ∗ dutyTok EX (recvCell o (peer o c)) 0 0 ∗ reached EX (recvCell o (peer o c)) 0)
      ⊢ iprop(((cred (tallyAt (sendCell o c) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sV) hsrc hdst hsem) k) Q) := by
  subst hn hS hV
  have h₂ : (((slotM c).view.loc (peer o c : Thread nD τ) ↦[(slotM c).view.set]{fullShare}
      ((slotM c).view.write (Elt F) f ((slotM c).view.read (Elt F) (gathered m ρ)) Finset.univ)) : sProp 𝕄)
      ⊢ (plan m ρ).payload (recvCell o (peer o c)) 0 0 := by
    rw [payload_recv, src_peer]; exact Entails.of_eq (slotPts_congr (peer o c) c fullShare (sent m ρ c f))
  have h₁ : ((slotM c).view.loc (c : Thread nD τ) ↦[(slotM c).view.set]{part o} (gathered m ρ) : sProp 𝕄)
      ⊢ (plan m ρ).payload (sendCell o c) 0 0 := by
    rw [payload_send]; exact BI.Entails.refl _
  unfold slotPts
  have hN : (slotM c).view.amount (.dma (recvS o)) = N := credit_eq c
  have hd1 : (0 : Fin 3) ∈ (plan m ρ).duties (sendCell o c) 0 := by rw [duties_send]; exact Finset.mem_singleton_self _
  have hd2 : (0 : Fin 3) ∈ (plan m ρ).duties (recvCell o (peer o c)) 0 := by rw [duties_recv]; exact Finset.mem_singleton_self _
  have hr : τ.routes (c : Thread nD τ) (peer o c : Thread nD τ) = true := by routes
  have ha1 := amount_dma m ρ c (sendS o) 0
  have ha2 := amount_dma m ρ (peer o c) (recvS o) 0
  generalize N = n at *
  exact Rounds.wp_send_pointsTo (c' := (peer o c : Thread nD τ)) (src := slotM c) (dst := slotM c) (sS := .dma (sendS o)) (sem := .dma (recvS o)) (hsc := hsc)
    (hsrc := hsrc) (hdst := hdst) (hsem := hsem) 𝒱₀ EX (plan m ρ) (c : Thread nD τ) none (κ₁ := K (c, some (false, o))) (κ₂ := K (peer o c, some (true, o)))
    (r₁ := 0) (r₂ := 0) (d₁ := 0) (d₂ := 0) (q := part o) (fs := gathered m ρ) (fd := f) hd1 hd2 () () n hN ha1 ha2 O' hO (W := W) h₁ h₂ hr

/-- The transfer to the peer `o + 1` places on. -/
theorem wp_transfer (o : Fin 3) (c n : Dev nD)
    {α : Type} {Q : α → sProp 𝕄} {k : PUnit → Prog (TpuEff nD τ sig (Elt F) Λ₀ .tc) α}
    (hn : n = peer o c) (sS sV : DmaSem sig) (hS : sS = sendS o) (hV : sV = recvS o)
    {hsc : (slotM c : Memref sig (Dev.tc n : Thread nD τ).2.kind .vmem S256x8 .f32).view.ref.isScScratch = false}
    {hsrc : (slotM c).view.WordExact} {hdst : (slotM c).view.WordExact}
    {hsem : DmaTarget.Typed .vmem (.dma sV) (.remote (Dev.tc n : Thread nD τ) (slotM c) (.dma sS) hsc)}
    {O : CellTallies nD τ sig Unit} (O' : CellTallies nD τ sig Unit)
    (hO : O = O' + tallyAt (recvCell o (peer o c)) () N) {W : Waits sig Unit} {f : (cc0_scratch0 : Ref sig .tc).ty.Contents (Elt F)} :
    iprop(records m ρ K ∗ slotPts c c (part o) (gathered m ρ) ∗ slotPts (peer o c) c fullShare f
        ∗ owes (c : Thread nD τ) O W ∗ dutyTok EX (sendCell o c) 0 0 ∗ dutyTok EX (recvCell o (peer o c)) 0 0)
      ⊢ iprop(((cred (tallyAt (sendCell o c) () N) ∗ owes (c : Thread nD τ) O' W) -∗ wp frame (wpE (defs₀ (F := F)) 𝒱₀ (c : Thread nD τ) none) Set.univ (k ⟨⟩) Q)
          -∗ wp frame (wpE (defs₀ (F := F)) 𝒱₀ (c : Thread nD τ) none) Set.univ
              (.op (.enqueueDma (slotM c) (.remote (Dev.tc n : Thread nD τ) (slotM c) (.dma sS) hsc) (.dma sV) hsrc hdst hsem) k) Q) := by
  subst hn hS hV
  iintro ⟨#Hr, Hs, Hd, HO, Ht, Ht'⟩
  ihave #HI := (inv_at m ρ K (c, some (false, o))) $$ Hr
  ihave #HI' := (inv_at m ρ K (peer o c, some (true, o))) $$ Hr
  ihave #Hre := (reached_at m ρ K (c, some (false, o))) $$ Hr
  ihave #Hre' := (reached_at m ρ K (peer o c, some (true, o))) $$ Hr
  iapply (wp_transfer_with m ρ K o c _ rfl _ _ rfl rfl O' hO (f := f)) $$ [Hs Hd HO Ht Ht']
  isplitr; · iexact HI
  isplitr; · iexact HI'
  isplitl [Hs]; · iexact Hs
  isplitl [Hd]; · iexact Hd
  isplitl [HO]; · iexact HO
  isplitl [Ht]; · iexact Ht
  isplitr; · iexact Hre
  isplitl [Ht']; · iexact Ht'
  iexact Hre'

/-- The wait for a send to be read: the share of the source slot is back. -/
theorem wp_wait_send (o : Fin 3) (c : Dev nD)
    {α : Type} {Q : α → sProp 𝕄} {k : PUnit → Prog (TpuEff nD τ sig (Elt F) Λ₀ .tc) α}
    (sS : DmaSem sig) (hS : sS = sendS o) {hsrc : (slotM c).view.WordExact} {hdst : (slotM c).view.WordExact}
    (W : Waits sig Unit) :
    iprop(records m ρ K ∗ cred (tallyAt (sendCell o c) () N) ∗ owes (c : Thread nD τ) 0 W ∗ atPos EX (sendCell o c) 0 ∅ 0)
      ⊢ iprop(((owes (c : Thread nD τ) 0 (insert (SemLoc.dma (sendS o), ()) W) ∗ semVal (sendCell o c) 0 ∗ slotPts c c (part o) (gathered m ρ))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sS (slotM c) (slotM c) hsrc hdst) k) Q) := by
  subst hS
  iintro ⟨#Hr, Hc, HO, Hat⟩ Hk
  ihave #HI := (inv_at m ρ K (c, some (false, o))) $$ Hr
  iapply (Rounds.wp_wait_rest_token 𝒱₀ EX (plan m ρ) (c : Thread nD τ) none (κ := K (c, some (false, o)))
      (wpE_waitDma2_eq 𝒱₀ (c : Thread nD τ) none Set.univ) (Set.mem_univ _) () (O := 0) (W := W) (R := 0) (m := 0) (T := ∅)
      (by rw [Nat.zero_add, expect_send])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hs := (Entails.of_eq (rest_send m ρ c o)) $$ Hp
  imod (Rounds.cell_close EX (plan m ρ) (Set.mem_univ (K (c, some (false, o)))) (fun h => h) (R := 0 + 1) (duties_later m ρ (sendCell o c))) $$ [Hat] with Hz
  · isplitr; · iexact HI
    iexact Hat
  iapply Hk
  isplitl [HO]; · iexact HO
  isplitl [Hz]; · iexact Hz
  iexact Hs

/-- The wait for a receive: the slot of the device it comes from has arrived. -/
theorem wp_wait_recv (o : Fin 3) (c : Dev nD)
    {α : Type} {Q : α → sProp 𝕄} {k : PUnit → Prog (TpuEff nD τ sig (Elt F) Λ₀ .tc) α}
    (sV : DmaSem sig) (hV : sV = recvS o) {hsrc : (slotM c).view.WordExact} {hdst : (slotM c).view.WordExact}
    (W : Waits sig Unit) :
    iprop(records m ρ K ∗ cred (tallyAt (recvCell o c) () N) ∗ owes (c : Thread nD τ) 0 W ∗ atPos EX (recvCell o c) 0 ∅ 0)
      ⊢ iprop(((owes (c : Thread nD τ) 0 (insert (SemLoc.dma (recvS o), ()) W) ∗ semVal (recvCell o c) 0 ∗ slotPts c (src o c) fullShare (gathered m ρ))
            -∗ wp frame (wpE (defs₀ (F := F)) 𝒱₀ (c : Thread nD τ) none) Set.univ (k ⟨⟩) Q)
          -∗ wp frame (wpE (defs₀ (F := F)) 𝒱₀ (c : Thread nD τ) none) Set.univ (.op (.waitDma2 sV (slotM c) (slotM c) hsrc hdst) k) Q) := by
  subst hV
  iintro ⟨#Hr, Hc, HO, Hat⟩ Hk
  ihave #HI := (inv_at m ρ K (c, some (true, o))) $$ Hr
  iapply (Rounds.wp_wait_rest_token 𝒱₀ EX (plan m ρ) (c : Thread nD τ) none (κ := K (c, some (true, o)))
      (wpE_waitDma2_eq 𝒱₀ (c : Thread nD τ) none Set.univ) (Set.mem_univ _) () (O := 0) (W := W) (R := 0) (m := 0) (T := ∅)
      (by rw [Nat.zero_add, expect_recv])) $$ [Hc HO Hat]
  · isplitr; · iexact HI
    isplitl [Hc]; · iexact Hc
    isplitl [HO]; · iexact HO
    isplitr; · rw [MayWait_zero]; iempintro
    iexact Hat
  iintro ⟨HO, Hat, -, Hp⟩
  ihave Hs := (Entails.of_eq (rest_recv m ρ c o)) $$ Hp
  imod (Rounds.cell_close EX (plan m ρ) (Set.mem_univ (K (c, some (true, o)))) (fun h => h) (R := 0 + 1) (duties_later m ρ (recvCell o c))) $$ [Hat] with Hz
  · isplitr; · iexact HI
    iexact Hat
  iapply Hk
  isplitl [HO]; · iexact HO
  isplitl [Hz]; · iexact Hz
  iexact Hs

/-- The wait on the barrier: the three peers' slots for `c`'s transfers have come. -/
theorem wp_wait_bar (c : Dev nD)
    {α : Type} {Q : α → sProp 𝕄} {k : PUnit → Prog (TpuEff nD τ sig (Elt F) Λ₀ .tc) α}
    (W : Waits sig Unit) :
    iprop(records m ρ K ∗ levAts L lv ∗ cred (tallyAt (barCell c) () 3) ∗ owes (c : Thread nD τ) (owesSends c) W ∗ atPos EX (barCell c) 0 ∅ 0)
      ⊢ iprop(((owes (c : Thread nD τ) (owesSends c) (insert (SemLoc.reg barS, ()) W) ∗ semVal (barCell c) 0
              ∗ (∃ f, slotPts (peer 0 c) c fullShare f) ∗ (∃ f, slotPts (peer 1 c) c fullShare f) ∗ (∃ f, slotPts (peer 2 c) c fullShare f))
            -∗ wp frame (wpE (defs₀ (F := F)) 𝒱₀ (c : Thread nD τ) none) Set.univ (k ⟨⟩) Q)
          -∗ wp frame (wpE (defs₀ (F := F)) 𝒱₀ (c : Thread nD τ) none) Set.univ (.op (.semWait barS (3#32).toNat) k) Q) := by
  iintro ⟨#Hr, #Hlev, Hc, HO, Hat⟩ Hk
  ihave #HI := (inv_at m ρ K (c, none)) $$ Hr
  iapply (Rounds.wp_wait_rest_token 𝒱₀ EX (plan m ρ) (c : Thread nD τ) none (κ := K (c, none))
      (wpE_semWait_eq 𝒱₀ (c : Thread nD τ) none Set.univ) (Set.mem_univ _) () (O := owesSends c) (W := W) (R := 0) (m := 0) (T := ∅)
      (by rw [expect_bar]; decide)) $$ [Hc HO Hat]
  · isplitr; · iexact HI
    isplitl [Hc]; · iexact Hc
    isplitl [HO]; · iexact HO
    isplitr; · iapply (mayWait_bar c); iexact Hlev
    iexact Hat
  iintro ⟨HO, Hat, -, Hp⟩
  ihave Hs := (Entails.of_eq (rest_bar m ρ c)) $$ Hp
  unfold barPay
  icases Hs with ⟨⟨H0, -⟩, ⟨H1, -⟩, ⟨H2, -⟩⟩
  imod (Rounds.cell_close EX (plan m ρ) (Set.mem_univ (K (c, none))) (fun h => h) (R := 0 + 1) (duties_later m ρ (barCell c))) $$ [Hat] with Hz
  · isplitr; · iexact HI
    iexact Hat
  iapply Hk
  isplitl [HO]; · iexact HO
  isplitl [Hz]; · iexact Hz
  isplitl [H2]; · iexact H2
  isplitl [H1]; · iexact H1
  iexact H0

end Cert.KernelIdeal.Exchange

end
-- ==== Proof.Body.lean ====
/-
# The kernel's body

Device `c`'s part of the kernel, run from what `Exchange` hands it to what it must hand back: its table gathered, the
result stored, every semaphore it used at zero again.
-/
module

public import proofs.«01_k».proof.Proof.Steps

@[expose] public section

set_option backward.proofsInPublic true

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg) (K : Dev nD × CK → ℕ)

/-! ## The body -/

abbrev stg (c : Dev nD) (b : Ref sig .tc) (X : b.ty.Contents (Elt F)) : sProp 𝕄 :=
  iprop(∃ f : Buf (Elt F) (((c : Dev nD) : Thread nD τ).loc b), ⌜f = X⌝ ∗ (((c : Thread nD τ).loc b) ↦{fullShare} f))

def bodyPre (c : Dev nD) : sProp 𝕄 :=
  iprop((ghost m ρ K c ∗ credits c ∗ levAts L lv)
    ∗ (∃ f : Buf (Elt F) ((c : Thread nD τ).loc cc0_scratch0), ((c : Thread nD τ).loc cc0_scratch0) ↦{fullShare} f)
    ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

def bodyPost (c : Dev nD) : sProp 𝕄 :=
  iprop(Φ₁ m ρ c ∗ (dats m ρ 0 c).owesAt () t₀.succ ∗ stg c cc0_stg0_0 (xstg m ρ c) ∗ stg c cc0_stg1_0 (outAt m ρ))

theorem slotPts_eq (c j : Dev nD) (q) (f : (cc0_scratch0 : Ref sig .tc).ty.Contents (Elt F)) :
    (slotPts c j q f : sProp 𝕄) = ((slotM j).view.loc (c : Thread nD τ) ↦[(slotM j).view.set]{q} f) := rfl

/-- The own slot after the store, in the three shares that the transfers take. -/
theorem own_after (c : Dev nD) (f : (cc0_scratch0 : Ref sig .tc).ty.Contents (Elt F)) :
    (((tM : Memref sig .tc .vmem S4x256x8 .f32).access (rOwn c) : View sig .tc _ _ _).loc (c : Thread nD τ) ↦[(slotM c).view.set]{fullShare}
        (((tM : Memref sig .tc .vmem S4x256x8 .f32).access (rOwn c) : View sig .tc _ _ _).write (Elt F) f (best m ρ c) Finset.univ) : sProp 𝕄)
      = iprop(slotPts c c (part 0) (gathered m ρ) ∗ slotPts c c (part 1) (gathered m ρ) ∗ slotPts c c (part 2) (gathered m ρ)) :=
  (slotPts_congr c c fullShare (own_stored m ρ c f)).trans (slot_parts c c (gathered m ρ))

/-- The own slot's three shares and the three slots that have arrived are the gathered table. -/
theorem table_join (c : Dev nD) :
    iprop((slotPts c c (part 0) (gathered m ρ) ∗ slotPts c c (part 1) (gathered m ρ) ∗ slotPts c c (part 2) (gathered m ρ))
        ∗ slotPts c (src 2 c) fullShare (gathered m ρ) ∗ slotPts c (src 1 c) fullShare (gathered m ρ) ∗ slotPts c (src 0 c) fullShare (gathered m ρ))
      ⊢ (((c : Thread nD τ).loc cc0_scratch0) ↦{fullShare} (gathered m ρ) : sProp 𝕄) := by
  rw [← slot_parts]
  exact Entails.of_eq ((table_slots c (gathered m ρ)).trans (bigSep_from c _)).symm

theorem read_slot0 : (tM : Memref sig .tc .vmem S4x256x8 .f32).view.readAt (Elt F)
    (Rect.unit (s := S4x256x8) ![0, 0, 0] S1x256x8.size inb_S4x256x8_S1x256x8_0_0_0).toLoadRect (gathered m ρ) = best m ρ 0 := read_slot m ρ 0 _ _ rfl
theorem read_slot1 : (tM : Memref sig .tc .vmem S4x256x8 .f32).view.readAt (Elt F)
    (Rect.unit (s := S4x256x8) ![1, 0, 0] S1x256x8.size inb_S4x256x8_S1x256x8_1_0_0).toLoadRect (gathered m ρ) = best m ρ 1 := read_slot m ρ 1 _ _ rfl
theorem read_slot2 : (tM : Memref sig .tc .vmem S4x256x8 .f32).view.readAt (Elt F)
    (Rect.unit (s := S4x256x8) ![2, 0, 0] S1x256x8.size inb_S4x256x8_S1x256x8_2_0_0).toLoadRect (gathered m ρ) = best m ρ 2 := read_slot m ρ 2 _ _ rfl
theorem read_slot3 : (tM : Memref sig .tc .vmem S4x256x8 .f32).view.readAt (Elt F)
    (Rect.unit (s := S4x256x8) ![3, 0, 0] S1x256x8.size inb_S4x256x8_S1x256x8_3_0_0).toLoadRect (gathered m ρ) = best m ρ 3 := read_slot m ρ 3 _ _ rfl

abbrev theBody : Prog (TpuEff nD τ sig (Elt F) Λ₀ .tc) PUnit :=
  cc0_body (Memref.whole cc0_stg0_0) (Memref.isWhole_whole _) (Memref.whole cc0_stg1_0) (Memref.isWhole_whole _)
    (Memref.whole cc0_scratch0) (Memref.isWhole_whole _) cc0_scratch1 cc0_scratch2

set_option maxHeartbeats 1600000 in
set_option maxRecDepth 65536 in
/-- The body, effect after effect in the order of the program. -/
theorem sound_body (c : Dev nD) (Kt : PUnit → sProp 𝕄) :
    iprop(bodyPre m ρ K c ∗ (bodyPost m ρ c -∗ Kt ⟨⟩)) ⊢ wp frame (wpE (defs₀ (F := F)) 𝒱₀ c none) Set.univ theBody Kt := by
  unfold theBody
  simp only [cc0_body_eq_skeleton]; unfold cc0_body_skel
  simp only [k0_part6_eq_skeleton]; unfold k0_part6_skel
  simp only [k0_part1_eq_skeleton, k0_part2_eq_skeleton, k0_part3_eq_skeleton, k0_part4_eq_skeleton, k0_part5_eq_skeleton]
  unfold k0_part1_skel k0_part2_skel k0_part3_skel k0_part4_skel k0_part5_skel
  simp only [semSignalWord, semWaitWord, Prog.lift, Prog.bind_op, Prog.bind_ret, Prog.pure_eq_ret, wp_deviceId]
  unfold bodyPre ghost places payToks credits
  iintro ⟨⟨⟨⟨#Hr, ⟨HatB, ⟨HatS0, HatS1, HatS2⟩, HatV0, HatV1, HatV2⟩, ⟨HtB0, HtB1, HtB2⟩, ⟨HtS0, HtS1, HtS2⟩, HtV0, HtV1, HtV2⟩,
      ⟨HcB, HcV0, HcV1, HcV2⟩, #Hlev⟩, ⟨%f0, Hscr⟩, Ho, ⟨%d0, %g0, %hg0, Hx⟩, ⟨%d1, %g1, %hg1, Hout⟩⟩, Hk⟩
  have hx : g0 = xstg m ρ c := by rw [hg0]; unfold Dat.before; rw [if_pos (fetch_0 t₀)]; rfl
  subst hx
  unfold Dat.owesAt Pipeline.owesWithin
  icases Ho with ⟨%W, %hW, HO⟩
  rw [show (dats m ρ 0 c).owed t₀.castSucc = owesAll c from rfl]
  ihave Hsl := (Entails.of_eq ((table_slots c f0).trans (bigSep_from c _))) $$ Hscr
  icases Hsl with ⟨Hown, Hg0, Hg1, Hg2⟩
  simp only [dev1_eq c, dev2_eq c, dev3_eq c]
  iapply (wp_announce m ρ K 0 c (owesAll2 c) rfl) $$ [HO HtB0 Hg0]
  · isplitr; · iexact Hr
    isplitl [HO]; · iexact HO
    isplitl [HtB0] <;> iassumption
  iintro HO
  iapply (wp_announce m ρ K 1 c (owesAll1 c) rfl) $$ [HO HtB1 Hg1]
  · isplitr; · iexact Hr
    isplitl [HO]; · iexact HO
    isplitl [HtB1] <;> iassumption
  iintro HO
  iapply (wp_announce m ρ K 2 c (owesSends c) rfl) $$ [HO HtB2 Hg2]
  · isplitr; · iexact Hr
    isplitl [HO]; · iexact HO
    isplitl [HtB2] <;> iassumption
  iintro HO
  iapply (wp_wait_bar m ρ K c W) $$ [HcB HO HatB]
  · isplitr; · iexact Hr
    isplitr; · iexact Hlev
    isplitl [HcB]; · iexact HcB
    isplitl [HO] <;> iassumption
  iintro ⟨HO, HzB, ⟨%p0, Hp0⟩, ⟨%p1, Hp1⟩, ⟨%p2, Hp2⟩⟩
  iapply (wp_load 𝒱₀ (c : Thread nD τ) none Set.univ (m := xM) (Finset.subset_univ _)) $$ Hx; iintro Hx
  rw [read_x]
  ihave Hown := (Entails.of_eq (slotPts_eq c c fullShare f0)) $$ Hown
  iapply (wp_load 𝒱₀ (c : Thread nD τ) none Set.univ (m := tM) (own_load_sub c)) $$ Hown; iintro Hown
  iapply (wp_store 𝒱₀ (c : Thread nD τ) none Set.univ (m := tM) (r := rOwn c) (Mk := Finset.univ) (own_store_sub c)) $$ Hown; iintro Hown
  rw [show k0_pay6 (k0_pay2 (xstg m ρ c)) (k0_pay4 (xstg m ρ c)) (k0_pay5 (xstg m ρ c)) = best m ρ c from rfl]
  ihave Hown := (Entails.of_eq (own_after m ρ c f0)) $$ Hown
  icases Hown with ⟨Hq0, Hq1, Hq2⟩
  -- the three transfers
  iapply (wp_transfer m ρ K 0 c _ (dev4_eq c) _ _ send0_eq recv0_eq (owesSends2 c) rfl) $$ [Hq0 Hp0 HO HtS0 HtV0]
  · isplitr; · iexact Hr
    isplitl [Hq0]; · iexact Hq0
    isplitl [Hp0]; · iexact Hp0
    isplitl [HO]; · iexact HO
    isplitl [HtS0] <;> iassumption
  iintro ⟨HcS0, HO⟩
  iapply (wp_transfer m ρ K 1 c _ (dev5_eq c) _ _ send1_eq recv1_eq (owesSends1 c) rfl) $$ [Hq1 Hp1 HO HtS1 HtV1]
  · isplitr; · iexact Hr
    isplitl [Hq1]; · iexact Hq1
    isplitl [Hp1]; · iexact Hp1
    isplitl [HO]; · iexact HO
    isplitl [HtS1] <;> iassumption
  iintro ⟨HcS1, HO⟩
  iapply (wp_transfer m ρ K 2 c _ (dev6_eq c) _ _ send2_eq recv2_eq 0 rfl) $$ [Hq2 Hp2 HO HtS2 HtV2]
  · isplitr; · iexact Hr
    isplitl [Hq2]; · iexact Hq2
    isplitl [Hp2]; · iexact Hp2
    isplitl [HO]; · iexact HO
    isplitl [HtS2] <;> iassumption
  iintro ⟨HcS2, HO⟩
  -- their waits
  iapply (wp_wait_send m ρ K 0 c _ send0_eq _) $$ [HcS0 HO HatS0]
  · isplitr; · iexact Hr
    isplitl [HcS0]; · iexact HcS0
    isplitl [HO] <;> iassumption
  iintro ⟨HO, HzS0, Hq0⟩
  iapply (wp_wait_recv m ρ K 0 c _ recv0_eq _) $$ [HcV0 HO HatV0]
  · isplitr; · iexact Hr
    isplitl [HcV0]; · iexact HcV0
    isplitl [HO] <;> iassumption
  iintro ⟨HO, HzV0, Ha0⟩
  iapply (wp_wait_send m ρ K 1 c _ send1_eq _) $$ [HcS1 HO HatS1]
  · isplitr; · iexact Hr
    isplitl [HcS1]; · iexact HcS1
    isplitl [HO] <;> iassumption
  iintro ⟨HO, HzS1, Hq1⟩
  iapply (wp_wait_recv m ρ K 1 c _ recv1_eq _) $$ [HcV1 HO HatV1]
  · isplitr; · iexact Hr
    isplitl [HcV1]; · iexact HcV1
    isplitl [HO] <;> iassumption
  iintro ⟨HO, HzV1, Ha1⟩
  iapply (wp_wait_send m ρ K 2 c _ send2_eq _) $$ [HcS2 HO HatS2]
  · isplitr; · iexact Hr
    isplitl [HcS2]; · iexact HcS2
    isplitl [HO] <;> iassumption
  iintro ⟨HO, HzS2, Hq2⟩
  iapply (wp_wait_recv m ρ K 2 c _ recv2_eq _) $$ [HcV2 HO HatV2]
  · isplitr; · iexact Hr
    isplitl [HcV2]; · iexact HcV2
    isplitl [HO] <;> iassumption
  iintro ⟨HO, HzV2, Ha2⟩
  -- the table is whole again
  ihave Hscr := (table_join m ρ c) $$ [Hq0 Hq1 Hq2 Ha0 Ha1 Ha2]
  · isplitl [Hq0 Hq1 Hq2]
    · isplitl [Hq0]; · iexact Hq0
      isplitl [Hq1] <;> iassumption
    isplitl [Ha2]; · iexact Ha2
    isplitl [Ha1] <;> iassumption
  iapply (wp_load 𝒱₀ (c : Thread nD τ) none Set.univ (m := tM) (Finset.subset_univ _)) $$ Hscr; iintro Hscr
  iapply (wp_load 𝒱₀ (c : Thread nD τ) none Set.univ (m := tM) (Finset.subset_univ _)) $$ Hscr; iintro Hscr
  iapply (wp_load 𝒱₀ (c : Thread nD τ) none Set.univ (m := tM) (Finset.subset_univ _)) $$ Hscr; iintro Hscr
  iapply (wp_load 𝒱₀ (c : Thread nD τ) none Set.univ (m := tM) (Finset.subset_univ _)) $$ Hscr; iintro Hscr
  rw [read_slot0, read_slot1, read_slot2, read_slot3]
  iapply (wp_load 𝒱₀ (c : Thread nD τ) none Set.univ (m := oM) (Finset.subset_univ _)) $$ Hout; iintro Hout
  iapply (wp_store 𝒱₀ (c : Thread nD τ) none Set.univ (m := oM) (r := rO) (Mk := Finset.univ) (Finset.subset_univ _)) $$ Hout; iintro Hout
  rw [write_out, wp_ret]; imodintro
  iapply Hk
  unfold bodyPost Φ₁ Dat.owesAt Pipeline.owesWithin
  rw [show (dats m ρ 0 c).owed t₀.succ = 0 from rfl]
  isplitl [Hscr HzS0 HzS1 HzS2 HzV0 HzV1 HzV2 HzB]
  · isplitl [Hscr]; · iexact Hscr
    isplitr [HzB]
    · isplitl [HzS0]; · iexact HzS0
      isplitl [HzS1]; · iexact HzS1
      isplitl [HzS2]; · iexact HzS2
      isplitl [HzV0]; · iexact HzV0
      isplitl [HzV1] <;> iassumption
    iexact HzB
  isplitl [HO]
  · iexists (insert (SemLoc.dma (recvS 2), ()) (insert (SemLoc.dma (sendS 2), ()) (insert (SemLoc.dma (recvS 1), ()) (insert (SemLoc.dma (sendS 1), ()) (insert (SemLoc.dma (recvS 0), ()) (insert (SemLoc.dma (sendS 0), ()) (insert (SemLoc.reg barS, ()) W)))))))
    isplitr; · ipureintro; exact fun _ _ => Or.inl trivial
    iexact HO
  isplitl [Hx]
  · iexists _; isplitr; · (ipureintro; rfl)
    iexact Hx
  iexists _; isplitr; · (ipureintro; rfl)
  iexact Hout

set_option maxRecDepth 4000 in
def bodyPre' (c : Dev nD) : sProp 𝕄 :=
  iprop(Φ₀ m ρ c ∗ (dats m ρ 0 c).owesAt () t₀.castSucc
    ∗ (∃ d, stg c cc0_stg0_0 ((dats m ρ 0 c).before (0 : Fin 2) t₀ d))
    ∗ (∃ d, stg c cc0_stg1_0 ((dats m ρ 0 c).before (1 : Fin 2) t₀ d)))

theorem owns_stg (c : Dev nD) (b : Ref sig .tc) (X : b.ty.Contents (Elt F)) :
    (owns (Ix := Unit) (Name := ℕ) (U := UU) (Lvl := ℕ) (c : Thread nD τ) (Memref.whole b) fullShare X : sProp 𝕄) = stg c b X := by
  unfold owns; simp only [Memref.view_whole, View.read_whole, View.set_whole]

set_option maxRecDepth 4000 in
/-- What the pipeline asks of the body on device `c`. -/
theorem body_obligation (c : Dev nD) : BodyObligation (dats (F := F) m ρ 0 c) (defs₀ (F := F)) 𝒱₀ () Set.univ := fun t => by
  rw [fin_N t, bigSep_W0, bigSep_W0]
  simp only [owns_stg]
  show bodyPre' m ρ c ⊢ wp frame (wpE (defs₀ (F := F)) 𝒱₀ c none) Set.univ theBody (fun _ => bodyPost m ρ c)
  unfold bodyPre' Φ₀ start
  iintro ⟨⟨⟨⟨%K, Hg⟩, Hc, Hl⟩, Hscr⟩, Ho, Hx, Hout⟩
  iapply (sound_body m ρ K c fun _ => bodyPost m ρ c)
  unfold bodyPre
  isplitr []
  · isplitl [Hg Hc Hl]
    · isplitl [Hg]; · iexact Hg
      isplitl [Hc] <;> iassumption
    isplitl [Hscr]; · iexact Hscr
    isplitl [Ho]; · iexact Ho
    isplitl [Hx] <;> iassumption
  · iintro H; iexact H

end Cert.KernelIdeal.Exchange

end
-- ==== Proof.Run.lean ====
/-
# The run of the four devices

The cells' invariants and tokens are made at the launch and dealt to the devices, and the kernel's run on all of them is
concluded: the argument stays, every device ends with the same result, every semaphore is at zero.
-/
module

public import proofs.«01_k».proof.Proof.Body
public import Idealize.ShloMosaic.Lib.Pipeline.CollectiveSegs

@[expose] public section

set_option backward.proofsInPublic true

noncomputable section

namespace Cert.KernelIdeal.Exchange

open Cert.KernelIdeal Cert.KernelIdeal.Gen

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ UU ℕ

variable (m : (ℓ : Loc nD τ sig) → Buf (Elt F) ℓ) (ρ : Dev nD → PrngReg)

/-- The semaphores that belong to the kernel itself: those of its sends and of its receives. -/
abbrev osem : Fin 6 → SemLoc sig := fun
  | 0 => .dma (sendS 0) | 1 => .dma (sendS 1) | 2 => .dma (sendS 2)
  | 3 => .dma (recvS 0) | 4 => .dma (recvS 1) | 5 => .dma (recvS 2)

theorem ownSemFacts : Pipeline.OwnSemFacts cfg0.spec osem := by decide

theorem share_eq (c : Dev nD) (w : Fin cfg0.W) : (dats m ρ 0 c).share w = fullShare := by unfold Dat.share; split <;> rfl

/-! ## The cells and tokens that the launch makes -/

theorem csem_injective : Function.Injective csem := by decide

theorem kcell_injective : Function.Injective (kcell : Dev nD × CK → GSem nD τ sig) := by
  rintro ⟨c, k⟩ ⟨c', k'⟩ h
  have h1 : c = c' := congrArg (fun g : GSem nD τ sig => g.1.1) h
  have h2 : k = k' := csem_injective (congrArg Prod.snd h)
  rw [h1, h2]
def theCells : Finset (GSem nD τ sig) := Finset.univ.map ⟨kcell, kcell_injective⟩

/-- The duties of a device's own cells: three of its barrier, one of each send and of each receive. -/
def dutyOf : Fin 3 × Fin 3 → CK × Fin 3
  | (0, o) => (none, o)
  | (1, o) => (some (false, o), 0)
  | (2, o) => (some (true, o), 0)
theorem dutyOf_injective : Function.Injective dutyOf := by decide
def tokOf (cj : Dev nD × (Fin 3 × Fin 3)) : GSem nD τ sig × ℕ × Fin 3 := (kcell (cj.1, (dutyOf cj.2).1), 0, (dutyOf cj.2).2)
theorem tokOf_injective : Function.Injective tokOf := by
  rintro ⟨c, j⟩ ⟨c', j'⟩ h
  have h1 := kcell_injective (congrArg Prod.fst h)
  have h2 : (dutyOf j).2 = (dutyOf j').2 := congrArg (fun x : GSem nD τ sig × ℕ × Fin 3 => x.2.2) h
  have h3 : j = j' := dutyOf_injective (Prod.ext (congrArg Prod.snd h1) h2)
  have h0 : c = c' := congrArg Prod.fst h1
  rw [h0, h3]
def theToks : Finset (GSem nD τ sig × ℕ × Fin 3) := Finset.univ.map ⟨tokOf, tokOf_injective⟩

def u₀ : UU := (initOf (Pipeline.cells cfgs cellOf_inj) (Pipeline.launchToks cfgs cellOf_inj), initOf theCells theToks)

/-- The duty tokens of device `c`'s own cells. -/
def toks (c : Dev nD) : sProp 𝕄 :=
  iprop((dutyTok EX (barCell c) 0 0 ∗ dutyTok EX (barCell c) 0 1 ∗ dutyTok EX (barCell c) 0 2)
    ∗ (dutyTok EX (sendCell 0 c) 0 0 ∗ dutyTok EX (sendCell 1 c) 0 0 ∗ dutyTok EX (sendCell 2 c) 0 0)
    ∗ (dutyTok EX (recvCell 0 c) 0 0 ∗ dutyTok EX (recvCell 1 c) 0 0 ∗ dutyTok EX (recvCell 2 c) 0 0))

/-- What the launch deals device `c`. -/
def dealt (c : Dev nD) : sProp 𝕄 :=
  iprop((bigSep Finset.univ fun k : CK => roundState EX (plan m ρ) (kcell (c, k)) 0)
    ∗ (bigSep Finset.univ fun k : CK => iprop(atPos EX (kcell (c, k)) 0 ∅ 0 ∗ reached EX (kcell (c, k)) 0)) ∗ toks c)

/-- What the devices make of it together. -/
def ready (c : Dev nD) : sProp 𝕄 := iprop(∃ K, ghost m ρ K c)

theorem bigSep_CK (Φ : CK → sProp 𝕄) : bigSep Finset.univ Φ
    = iprop(Φ none ∗ Φ (some (false, 0)) ∗ Φ (some (false, 1)) ∗ Φ (some (false, 2)) ∗ Φ (some (true, 0)) ∗ Φ (some (true, 1)) ∗ Φ (some (true, 2))) :=
  bigSep_univ_eq_bigSepL [none, some (false, 0), some (false, 1), some (false, 2), some (true, 0), some (true, 1), some (true, 2)] (by decide) (by decide) Φ

theorem toks_of (c : Dev nD) : (bigSep Finset.univ fun j : Fin 3 × Fin 3 => (dutyTok EX (tokOf (c, j)).1 (tokOf (c, j)).2.1 (tokOf (c, j)).2.2 : sProp 𝕄)) = toks c := by
  rw [bigSep_univ_prod, bigSep_fin3, bigSep_fin3, bigSep_fin3, bigSep_fin3]
  rfl

theorem fund_cells : BI.own (EX (initOf theCells theToks)) ⊢ (|==> bigSep Finset.univ (dealt m ρ) : sProp 𝕄) := by
  have hX (Φ : GSem nD τ sig → sProp 𝕄) : bigSep theCells Φ = bigSep Finset.univ fun c : Dev nD => bigSep Finset.univ fun k : CK => Φ (kcell (c, k)) := by
    unfold theCells; rw [bigSep_map, bigSep_univ_prod]; rfl
  have hT : bigSep theToks (fun x => (dutyTok EX x.1 x.2.1 x.2.2 : sProp 𝕄)) = bigSep Finset.univ fun c : Dev nD => toks c := by
    unfold theToks; rw [bigSep_map, bigSep_univ_prod]
    exact bigSep_congr fun c _ => toks_of c
  iintro HX
  imod (Rounds.fund EX (plan m ρ) theCells theToks) $$ HX with ⟨Hst, Hr, Hat, Htok⟩
  imodintro
  ihave Hst' := (Entails.of_eq (hX fun g => roundState EX (plan m ρ) g 0)) $$ Hst
  ihave Hat' := (Entails.of_eq (hX fun g => atPos EX g 0 ∅ 0)) $$ Hat
  ihave Hr' := (Entails.of_eq (hX fun g => reached EX g 0)) $$ Hr
  ihave Htok' := (Entails.of_eq hT) $$ Htok
  unfold dealt; simp only [bigSep_sep']
  isplitl [Hst']; · iexact Hst'
  isplitl [Hat' Hr']
  · isplitl [Hat'] <;> iassumption
  iexact Htok'

/-- The kernel's own semaphores are those of its sends and receives; -/
theorem ownSems0_eq (c : Dev nD) : (Pipeline.ownSems0 (Ix := Unit) (Name := ℕ) (U := UU) (Lvl := ℕ) (Val := Elt F) (τ := τ) osem c : sProp 𝕄)
    = iprop(semVal (sendCell 0 c) 0 ∗ semVal (sendCell 1 c) 0 ∗ semVal (sendCell 2 c) 0 ∗ semVal (recvCell 0 c) 0 ∗ semVal (recvCell 1 c) 0 ∗ semVal (recvCell 2 c) 0) := by
  rw [Pipeline.ownSems0_eq_of_list c osem [0, 1, 2, 3, 4, 5] (by decide) (by decide)]; rfl
/-- the barrier's is the one that outlives it. -/
theorem unscopedSems0_eq (c : Dev nD) : (unscopedSems0 c : sProp 𝕄) = semVal (barCell c) 0 := by
  unfold unscopedSems0; rw [bigSep_eq_bigSepL_of_eq [SemLoc.reg barS] (by decide) (by decide)]; rfl

theorem sems0_eq (c : Dev nD) :
    iprop(Pipeline.ownSems0 (Ix := Unit) (Name := ℕ) (U := UU) (Lvl := ℕ) (Val := Elt F) (τ := τ) osem c ∗ unscopedSems0 c)
      ⊢ (bigSep Finset.univ fun k : CK => semVal (kcell (c, k)) 0 : sProp 𝕄) := by
  rw [ownSems0_eq, unscopedSems0_eq, bigSep_CK]
  iintro ⟨H, HB⟩
  isplitl [HB]; · iexact HB
  iexact H

theorem core_alloc (c : Dev nD) :
    iprop(Pipeline.ownSems0 (Ix := Unit) (Name := ℕ) (U := UU) (Lvl := ℕ) (Val := Elt F) (τ := τ) osem c ∗ unscopedSems0 c ∗ dealt m ρ c)
      ⊢ |={Set.univ}=> iprop((bigSep Finset.univ fun k => iprop(∃ κ : ℕ, cellInv EX (plan m ρ) κ (kcell (c, k))))
          ∗ (bigSep Finset.univ fun k => iprop(atPos EX (kcell (c, k)) 0 ∅ 0 ∗ reached EX (kcell (c, k)) 0)) ∗ toks c) := by
  unfold dealt
  iintro ⟨Hos, Hus, Hst, Hat, Htok⟩
  ihave Hv := (sems0_eq (F := F) c) $$ [Hos Hus]
  · isplitl [Hos] <;> iassumption
  imod (show iprop((bigSep Finset.univ fun k : CK => semVal (kcell (c, k)) 0) ∗ bigSep Finset.univ fun k : CK => roundState EX (plan m ρ) (kcell (c, k)) 0)
      ⊢ (|={Set.univ}=> bigSep Finset.univ fun k => iprop(∃ κ : ℕ, cellInv EX (plan m ρ) κ (kcell (c, k))) : sProp 𝕄) from by
        rw [← bigSep_sep']
        exact (bigSep_mono fun k _ => (Rounds.body_intro EX (plan m ρ) (kcell (c, k))).trans inv_alloc).trans (bigSep_fupd _ _)) $$ [Hv Hst] with Hinv
  · isplitl [Hv] <;> iassumption
  imodintro
  isplitl [Hinv]; · iexact Hinv
  isplitl [Hat]; · iexact Hat
  iexact Htok

/-- The tokens go to the devices that pay the duties. -/
theorem toks_around : (bigSep Finset.univ fun c : Dev nD => (toks c : sProp 𝕄)) ⊢ bigSep Finset.univ fun c : Dev nD => payToks c := by
  unfold toks payToks
  simp only [bigSep_sep']
  rw [bigSep_univ_equiv (turn 0) (fun c : Dev nD => (dutyTok EX (barCell c) 0 0 : sProp 𝕄)),
    bigSep_univ_equiv (turn 1) (fun c : Dev nD => (dutyTok EX (barCell c) 0 1 : sProp 𝕄)),
    bigSep_univ_equiv (turn 2) (fun c : Dev nD => (dutyTok EX (barCell c) 0 2 : sProp 𝕄)),
    bigSep_univ_equiv (turn 0) (fun c : Dev nD => (dutyTok EX (recvCell 0 c) 0 0 : sProp 𝕄)),
    bigSep_univ_equiv (turn 1) (fun c : Dev nD => (dutyTok EX (recvCell 1 c) 0 0 : sProp 𝕄)),
    bigSep_univ_equiv (turn 2) (fun c : Dev nD => (dutyTok EX (recvCell 2 c) 0 0 : sProp 𝕄))]
  exact BI.Entails.refl _

theorem places_of (c : Dev nD) : (bigSep Finset.univ fun k : CK => (atPos EX (kcell (c, k)) 0 ∅ 0 : sProp 𝕄)) ⊢ places c := by
  rw [bigSep_CK]; unfold places
  iintro ⟨HB, H0, H1, H2, H3, H4, H5⟩
  isplitl [HB]; · iexact HB
  isplitl [H0 H1 H2]
  · isplitl [H0]; · iexact H0
    isplitl [H1]; · iexact H1
    iexact H2
  isplitl [H3]; · iexact H3
  isplitl [H4]; · iexact H4
  iexact H5

theorem all_places : (bigSep Finset.univ fun c : Dev nD => bigSep Finset.univ fun k : CK => (atPos EX (kcell (c, k)) 0 ∅ 0 : sProp 𝕄))
    ⊢ bigSep Finset.univ fun c : Dev nD => places c := bigSep_mono fun c _ => places_of c

theorem ready_intro (K : Dev nD × CK → ℕ) (c : Dev nD) : iprop(records m ρ K ∗ (places c ∗ payToks c)) ⊢ ready m ρ c := by
  unfold ready ghost
  iintro H
  iexists K
  iexact H

/-- What everybody knows is kept by each. -/
theorem share_known {R : sProp 𝕄} [BI.Persistent R] {Φ Ψ : Dev nD → sProp 𝕄}
    (h : ∀ c, iprop(R ∗ Φ c) ⊢ Ψ c) : iprop(R ∗ bigSep Finset.univ Φ) ⊢ bigSep Finset.univ Ψ :=
  (sep_mono_left (BI.bigSep_of_persistent Finset.univ R)).trans (by rw [← bigSep_sep']; exact bigSep_mono fun c _ => h c)

theorem regroup :
    (bigSep Finset.univ fun c : Dev nD => iprop((bigSep Finset.univ fun k => iprop(∃ κ : ℕ, cellInv EX (plan m ρ) κ (kcell (c, k))))
          ∗ (bigSep Finset.univ fun k => iprop(atPos EX (kcell (c, k)) 0 ∅ 0 ∗ reached EX (kcell (c, k)) 0)) ∗ toks c) : sProp 𝕄)
      ⊢ bigSep Finset.univ (ready m ρ) := by
  rw [bigSep_sep', bigSep_sep', ← bigSep_univ_prod (fun ck : Dev nD × CK => iprop(∃ κ : ℕ, cellInv EX (plan m ρ) κ (kcell ck))),
    bigSep_congr (s := Finset.univ) (fun (c : Dev nD) _ => bigSep_sep' Finset.univ (fun k : CK => (atPos EX (kcell (c, k)) 0 ∅ 0 : sProp 𝕄)) (fun k => reached EX (kcell (c, k)) 0)),
    bigSep_sep', ← bigSep_univ_prod (fun ck : Dev nD × CK => (reached EX (kcell ck) 0 : sProp 𝕄))]
  iintro ⟨HI, ⟨Hat, #HR⟩, Htok⟩
  ihave HK := (BI.bigSep_exists_pi Finset.univ (fun (ck : Dev nD × CK) (κ : ℕ) => (cellInv EX (plan m ρ) κ (kcell ck) : sProp 𝕄))) $$ HI
  icases HK with ⟨%K, #HI⟩
  ihave Htk := (toks_around (F := F)) $$ Htok
  iapply (share_known (R := records m ρ K) fun c => ready_intro m ρ K c)
  isplitr
  · unfold records; isplitl; · iexact HI
    iexact HR
  · rw [bigSep_sep']
    isplitl [Hat]
    · iapply (all_places (F := F))
      iexact Hat
    iexact Htk

theorem glob : (bigSep Finset.univ fun c => iprop(Pipeline.ownSems0 (Ix := Unit) (Name := ℕ) (U := UU) (Lvl := ℕ) (Val := Elt F) (τ := τ) osem c ∗ unscopedSems0 c ∗ dealt m ρ c) : sProp 𝕄)
    ⊢ |={Set.univ}=> bigSep Finset.univ (ready m ρ) :=
  ((bigSep_mono fun c _ => core_alloc m ρ c).trans (bigSep_fupd _ _)).trans (BI.fupd_mono (regroup m ρ))

/-! ## The credits at the launch -/

theorem bar_eq_iff {a b : Dev nD} : barCell a = barCell b ↔ a = b :=
  ⟨fun h => congrArg (fun g : GSem nD τ sig => g.1.1) h, fun h => h ▸ rfl⟩
theorem recv_eq_iff {o o' : Fin 3} {a b : Dev nD} : recvCell o a = recvCell o' b ↔ o = o' ∧ a = b :=
  ⟨fun h => ⟨by have h2 := congrArg Prod.snd h; injection h2 with h2; exact recvS_inj h2, congrArg (fun g : GSem nD τ sig => g.1.1) h⟩, fun ⟨h, h'⟩ => h ▸ h' ▸ rfl⟩
theorem recv_ne_bar (o : Fin 3) (a b : Dev nD) : recvCell o a ≠ barCell b := fun h => by
  have h2 := congrArg Prod.snd h
  injection h2
theorem bar_ne_recv (o : Fin 3) (a b : Dev nD) : barCell b ≠ recvCell o a := fun h => recv_ne_bar o a b h.symm

theorem owed_bar (d c : Dev nD) : owesAll d (barCell c) () = (if c = peer 2 d then 1 else 0) + (if c = peer 1 d then 1 else 0) + (if c = peer 0 d then 1 else 0) := by
  unfold owesAll owesAll2 owesAll1 owesSends owesSends2 owesSends1
  simp only [Pi.add_apply, Finsupp.add_apply, tallyAt_apply, Pi.zero_apply, Finsupp.zero_apply, bar_ne_recv, bar_eq_iff, false_and, and_true, if_false, Nat.zero_add]

theorem owed_recv (o : Fin 3) (d c : Dev nD) : owesAll d (recvCell o c) () = if c = peer o d then N else 0 := by
  unfold owesAll owesAll2 owesAll1 owesSends owesSends2 owesSends1
  simp only [Pi.add_apply, Finsupp.add_apply, tallyAt_apply, Pi.zero_apply, Finsupp.zero_apply, recv_ne_bar, recv_eq_iff, false_and, and_true, if_false, Nat.zero_add, Nat.add_zero]
  fin_cases o <;> simp

theorem launch_bar (c : Dev nD) :
    tallyOn (barCell c) (launchCredit (Pipeline.owing owesAll) 0 (barCell c)) = (tallyAt (barCell c) () 3 : CellTallies nD τ sig Unit) := by
  unfold tallyAt; refine congrArg _ (Finsupp.ext fun u => ?_); cases u
  rw [Pipeline.launchCredit_owing, Finsupp.single_eq_same, Finset.sum_congr rfl fun d _ => owed_bar d c]
  revert c; decide

theorem launch_recv (o : Fin 3) (c : Dev nD) :
    tallyOn (recvCell o c) (launchCredit (Pipeline.owing owesAll) 0 (recvCell o c)) = (tallyAt (recvCell o c) () N : CellTallies nD τ sig Unit) := by
  unfold tallyAt; refine congrArg _ (Finsupp.ext fun u => ?_); cases u
  rw [Pipeline.launchCredit_owing, Finsupp.single_eq_same, Finset.sum_congr rfl fun d _ => owed_recv o d c,
    Finset.sum_eq_single (src o c) (fun d _ h => if_neg fun h' => h (by rw [h', src_peer])) (fun h => absurd (Finset.mem_univ _) h), peer_src, if_pos rfl]

theorem creds (c : Dev nD) : (Pipeline.launchCred owesAll c : sProp 𝕄) ⊢ credits c := by
  unfold Pipeline.launchCred credits
  rw [bigSep_univ_at _ (SemLoc.reg barS), launch_bar]
  refine sep_mono_right ?_
  have hr (o : Fin 3) : SemLoc.dma (recvS o) ≠ SemLoc.reg barS := fun h => by injection h
  have hrr (o o' : Fin 3) (h : o ≠ o') : SemLoc.dma (recvS o) ≠ SemLoc.dma (recvS o') := fun h' => by injection h' with h'; exact h (recvS_inj h')
  rw [← launch_recv, ← launch_recv, ← launch_recv]
  rw [BI.bigSep_erase (i := SemLoc.dma (recvS 0)) (Finset.mem_erase.mpr ⟨hr 0, Finset.mem_univ _⟩)]
  refine sep_mono_right ?_
  rw [BI.bigSep_erase (i := SemLoc.dma (recvS 1)) (Finset.mem_erase.mpr ⟨hrr 1 0 (by decide), Finset.mem_erase.mpr ⟨hr 1, Finset.mem_univ _⟩⟩)]
  refine sep_mono_right ?_
  exact bigSep_elim (Finset.mem_erase.mpr ⟨hrr 2 1 (by decide), Finset.mem_erase.mpr ⟨hrr 2 0 (by decide), Finset.mem_erase.mpr ⟨hr 2, Finset.mem_univ _⟩⟩⟩)

/-! ## The side conditions of the run -/

theorem start_intro (c : Dev nD) :
    iprop(Pipeline.unscopedRestP Pipeline.Prefetch.none cfg0.spec c (fun b => m ((c : Thread nD τ).loc b)) ∗ levAts L lv
        ∗ Pipeline.launchCred owesAll c ∗ prngReg c (ρ c) ∗ ready m ρ c)
      ⊢ |={Set.univ}=> iprop(start m ρ c ∗ emp) := by
  iintro ⟨-, Hlev, Hcr, -, HG⟩
  ihave Hc := (creds (F := F) c) $$ Hcr
  imodintro
  unfold start ready
  isplitl
  · isplitl [HG]; · iexact HG
    isplitl [Hc] <;> iassumption
  · iempintro

theorem phi0_intro (c : Dev nD) :
    iprop(start m ρ c ∗ Pipeline.prefHeld Pipeline.Prefetch.none c (fun _ => fullShare.right) (fun k => k.elim0) ∗ Pipeline.scopedRest cfg0.spec c)
      ⊢ (dats m ρ 0 c).Φ 0 := by
  rw [show (dats m ρ 0 c).Φ 0 = Φ₀ m ρ c from rfl, scopedRest0_eq]
  unfold Φ₀
  iintro ⟨Hs, -, Hr⟩
  isplitl [Hs] <;> iassumption

theorem phi1_exit (c : Dev nD) :
    (dats m ρ 0 c).Φ (Fin.last cfg0.N) ⊢ iprop(unscopedSems0 c ∗ Pipeline.ownSems0 osem c ∗ Pipeline.scopedRest cfg0.spec c) := by
  rw [show (dats m ρ 0 c).Φ (Fin.last cfg0.N) = Φ₁ m ρ c from rfl, scopedRest0_eq, ownSems0_eq, unscopedSems0_eq]
  unfold Φ₁
  iintro ⟨Hr, Hz, HzB⟩
  isplitl [HzB]; · iexact HzB
  isplitl [Hz]; · iexact Hz
  iexists (gathered m ρ); iexact Hr

theorem waits (c : Dev nD) : (levAts L lv : sProp 𝕄) ⊢ Pipeline.cellsWaits cfgs (dats m ρ) () 0 c :=
  Pipeline.cellsWaits_intro cfgs (dats m ρ) () 0 c fun w s t =>
    mayWait_stage c _ (fun u => by fin_cases w <;> fin_cases s <;> rfl) _ (by
      rcases t with ⟨_ | _, ht⟩
      · exact Or.inl rfl
      · exact Or.inr rfl)

/-! ## The run -/

def finalA (c : Dev nD) (w : Fin cfg0.W) : Buf (Elt F) ((cfg0.win w).arr.view.loc (c : Thread nD τ)) := (dats m ρ 0 c).arrAt w cfg0.N

def atEnd : PUnit × MemSt nD τ sig (Elt F) → Prop := fun r =>
  ∀ c : Dev nD, ∀ w : Fin cfg0.W, r.2.mem ((cfg0.win w).arr.view.loc (c : Thread nD τ)) = finalA m ρ c w

set_option maxRecDepth 8000 in
/-- Every weakly fair execution on the four devices terminates, in a state whose arrays hold what was computed and whose
    semaphores are all at zero. -/
theorem run_main : θ_run defs (onTc (τ := τ) (main (F := F))) (start₀ m ρ) (fun r => atEnd m ρ r ∧ r.2.sem = fun _ => 0) :=
  Pipeline.θ_run_region_owing_glob_pf (fun p => (cfgs p).toPCfg) (fun p => (cfgs p).toPCfg_adm) (dats m ρ) () cellOf_inj (0 : Fin 1)
    winFacts0.to₀ ownSemFacts (Pipeline.PreFacts.none _) EP defs₀ 𝒱₀ m ρ main
    (hmain := fun _ => rfl)
    (hbody := body_obligation m ρ) (hne := fun w => by fin_cases w <;> exact Nat.succ_pos _) (harr := arr_whole0) (hstage := stage_whole0) (hshare := share_eq m ρ)
    (hdistinct := winFacts0.arr_inj)
    (O₀ := owesAll) (howed₀ := fun _ => rfl) (howedN := fun _ => rfl)
    (L := L) (lv := lv) (hL := L_of_ne) (hwaits := waits m ρ)
    (G := dealt m ρ) (G' := ready m ρ) (u₀ := u₀)
    (hu₀ := by
      unfold u₀
      iintro Hu
      ihave H := (ownU_pair _ _) $$ Hu
      icases H with ⟨HP, HX⟩
      imod (fund_cells m ρ) $$ HX with HG
      imodintro
      isplitl [HP] <;> iassumption)
    (hglob := glob m ρ)
    (hA := fun _ _ => rfl) (hpf := fun _ k => k.elim0)
    (X := start m ρ) (Y := fun c => unscopedSems0 c) (Z := fun _ => iprop(emp))
    (hX := start_intro m ρ) (hin := phi0_intro m ρ) (hout := phi1_exit m ρ)
    (QY := fun c s => ∀ sm : SemLoc sig, sm.isScoped .tc = false → s.sem ((c.tc : Thread nD τ), sm) = 0)
    (hY := fun c s' => by
      iintro ⟨Hu, -, HSI⟩
      iapply (Pipeline.unscopedSems0_read (X := unscopedSems0 c) (c := c) fupd_intro s')
      isplitl [Hu] <;> iassumption)
    (hQ := fun _ h hs => ⟨fun c w => (h c).1 w, sem_eq_zero hs fun c => (h c).2.2⟩)

/-- The argument after the run is what it was. -/
theorem finalA_x (c : Dev nD) : finalA m ρ c (0 : Fin 2) = m (win0_0.arr.view.loc (c : Thread nD τ)) :=
  (dats (F := F) m ρ 0 c).arrAt_in (0 : Fin 2) rfl _

end Cert.KernelIdeal.Exchange

end
-- ==== Proof.Leading.lean ====
/-
# The greatest distinct values of a finite family

`top v j` is the `j`-th greatest of the distinct values of a family `v`, counted from zero, and `⊥` when there are not
that many. It is computed as the kernel does: take the greatest, put `⊥` in place of every entry equal to it, and repeat.

Two facts serve the kernel. The first `n` of the values of a family cut into blocks are those of the table that holds the
first `n` of each block (`top_table`). And where a family is listed in falling order, and each of the first `j` steps
falls or arrives at `⊥`, its `j`-th value is the `j`-th of the list (`top_sorted`).
-/
module

public import Mathlib.Data.EReal.Basic
public import Mathlib.Data.Finset.Lattice.Fold
public import Mathlib.Data.Fintype.Prod

@[expose] public section

noncomputable section

namespace Cert.Leading

variable {ι κ δ : Type} [Fintype ι] [Fintype κ] [Fintype δ]

/-- What is left of the family after `j` rounds. -/
def left (v : ι → EReal) : ℕ → ι → EReal
  | 0 => v
  | j + 1 => fun k => if left v j k = Finset.univ.sup (left v j) then ⊥ else left v j k

/-- The greatest value left after `j` rounds. -/
def top (v : ι → EReal) (j : ℕ) : EReal := Finset.univ.sup (left v j)

theorem left_zero (v : ι → EReal) : left v 0 = v := rfl

theorem left_succ (v : ι → EReal) (j : ℕ) (k : ι) : left v (j + 1) k = if left v j k = top v j then ⊥ else left v j k := rfl

theorem le_top (v : ι → EReal) (j : ℕ) (k : ι) : left v j k ≤ top v j := Finset.le_sup (Finset.mem_univ k)

theorem le_top_zero (v : ι → EReal) (k : ι) : v k ≤ top v 0 := le_top v 0 k

/-- After `j + 1` rounds exactly the entries under the `j`-th value are left. -/
theorem left_under (v : ι → EReal) (j : ℕ) (k : ι) : left v (j + 1) k = if v k < top v j then v k else ⊥ := by
  induction j with
  | zero =>
    have h := le_top_zero v k
    rw [left_succ, left_zero]
    rcases h.lt_or_eq with h | h
    · rw [if_neg h.ne, if_pos h]
    · rw [if_pos h, if_neg h.not_lt]
  | succ j ih =>
    have h := le_top v (j + 1) k
    have hle : top v (j + 1) ≤ top v j := by
      refine Finset.sup_le fun i _ => ?_
      rw [left_succ]
      split
      · exact bot_le
      · exact le_top v j i
    rw [left_succ]
    by_cases hk : v k < top v j
    · rw [ih, if_pos hk] at h ⊢
      rcases h.lt_or_eq with h | h
      · rw [if_neg h.ne, if_pos h]
      · rw [if_pos h, if_neg h.not_lt]
    · have hn : ¬ v k < top v (j + 1) := fun hlt => hk (lt_of_lt_of_le hlt hle)
      rw [ih, if_neg hk, if_neg hn, ite_self]

theorem top_succ (v : ι → EReal) (j : ℕ) : top v (j + 1) = Finset.univ.sup fun k => if v k < top v j then v k else ⊥ :=
  congrArg _ (funext fun k => left_under v j k)

/-- An entry under the `j`-th value is at most the next. -/
theorem le_top_succ (v : ι → EReal) {j : ℕ} {k : ι} (h : v k < top v j) : v k ≤ top v (j + 1) := by
  have := le_top v (j + 1) k
  rwa [left_under, if_pos h] at this

/-- What bounds the entries under the `j`-th value bounds the next value. -/
theorem top_succ_le (v : ι → EReal) {j : ℕ} {b : EReal} (h : ∀ k, v k < top v j → v k ≤ b) : top v (j + 1) ≤ b := by
  rw [top_succ]
  refine Finset.sup_le fun k _ => ?_
  split
  · exact h k ‹_›
  · exact bot_le

/-- Each value is an entry, or `⊥`. -/
theorem top_mem (v : ι → EReal) (j : ℕ) : top v j = ⊥ ∨ ∃ k, top v j = v k := by
  have hl : ∀ j k, left v j k = ⊥ ∨ left v j k = v k := by
    intro j
    induction j with
    | zero => exact fun k => Or.inr rfl
    | succ j ih =>
      intro k
      rw [left_succ]
      split
      · exact Or.inl rfl
      · exact ih k
  rcases (Finset.univ : Finset ι).eq_empty_or_nonempty with he | hne
  · left
    unfold top
    rw [he, Finset.sup_empty]
  · obtain ⟨k, -, hk⟩ := Finset.exists_mem_eq_sup _ hne (left v j)
    rcases hl j k with h | h
    · exact Or.inl (hk.trans h)
    · exact Or.inr ⟨k, hk.trans h⟩

/-- The values fall until they reach `⊥`. -/
theorem top_succ_lt (v : ι → EReal) (j : ℕ) (h : top v (j + 1) ≠ ⊥) : top v (j + 1) < top v j := by
  have hb : (⊥ : EReal) < top v (j + 1) := bot_lt_iff_ne_bot.mpr h
  by_contra hn
  obtain ⟨k, -, hk⟩ := (Finset.lt_sup_iff).mp hb
  have hne : (Finset.univ : Finset ι).Nonempty := ⟨k, Finset.mem_univ k⟩
  obtain ⟨i, -, hi⟩ := Finset.exists_mem_eq_sup _ hne (left v (j + 1))
  have hi' : top v (j + 1) = left v (j + 1) i := hi
  rw [left_under] at hi'
  split at hi'
  · rename_i hlt
    exact hn (hi' ▸ hlt)
  · exact h hi'

/-- A family read through a map onto its positions has the same values. -/
theorem top_comp (v : ι → EReal) (f : κ → ι) (hf : Function.Surjective f) (j : ℕ) : top (fun k => v (f k)) j = top v j := by
  have hs : ∀ w : ι → EReal, (Finset.univ.sup fun k => w (f k)) = Finset.univ.sup w := by
    intro w
    refine le_antisymm (Finset.sup_le fun k _ => Finset.le_sup (Finset.mem_univ (f k))) (Finset.sup_le fun i _ => ?_)
    obtain ⟨k, rfl⟩ := hf i
    exact Finset.le_sup (f := fun k => w (f k)) (Finset.mem_univ k)
  induction j with
  | zero => exact hs v
  | succ j ih =>
    rw [top_succ, top_succ, ih]
    exact hs fun i => if v i < top v j then v i else ⊥

/-- A part of a family has values at most the whole family's, position by position. -/
theorem top_part_le (v : δ × ι → EReal) (d : δ) (j : ℕ) : top (fun k => v (d, k)) j ≤ top v j := by
  induction j with
  | zero => exact Finset.sup_le fun k _ => le_top_zero v (d, k)
  | succ j ih => exact top_succ_le _ fun k hk => le_top_succ v (hk.trans_le ih)

/-- The first `n` values of the whole are those of the table of every part's first `n` values. -/
theorem top_table {n : ℕ} (v : δ × ι → EReal) (u : δ × Fin n → EReal) (hu : ∀ d i, u (d, i) = top (fun k => v (d, k)) i.val)
    (j : ℕ) (hj : j < n) : top u j = top v j := by
  induction j with
  | zero =>
    refine le_antisymm (Finset.sup_le fun p _ => ?_) (Finset.sup_le fun p _ => ?_)
    · obtain ⟨d, i⟩ := p
      rw [left_zero, hu]
      rcases top_mem (fun k => v (d, k)) i.val with h | ⟨k, h⟩ <;> rw [h]
      · exact bot_le
      · exact le_top_zero v (d, k)
    · obtain ⟨d, k⟩ := p
      have h := le_top_zero (fun k => v (d, k)) k
      have hz : u (d, ⟨0, hj⟩) = top (fun k => v (d, k)) 0 := hu d ⟨0, hj⟩
      exact h.trans (hz ▸ le_top_zero u (d, ⟨0, hj⟩))
  | succ j ih =>
    have ih := ih (Nat.lt_of_succ_lt hj)
    refine le_antisymm (top_succ_le _ ?_) (top_succ_le _ ?_)
    · rintro ⟨d, i⟩ hlt
      rw [ih] at hlt
      rw [hu] at hlt ⊢
      rcases top_mem (fun k => v (d, k)) i.val with h | ⟨k, h⟩ <;> rw [h] at hlt ⊢
      · exact bot_le
      · exact le_top_succ v hlt
    · rintro ⟨d, k⟩ hlt
      -- the part's value after `j + 1` rounds is under the whole's after `j`
      have hlast : top (fun k => v (d, k)) (j + 1) < top v j := by
        by_cases hb : top (fun k => v (d, k)) (j + 1) = ⊥
        · rw [hb]
          exact lt_of_le_of_lt bot_le hlt
        · exact (top_succ_lt _ j hb).trans_le (top_part_le v d j)
      have hex : ∃ i, top (fun k => v (d, k)) i < top v j := ⟨j + 1, hlast⟩
      classical
      have hi := Nat.find_spec hex
      have hij : Nat.find hex ≤ j + 1 := Nat.find_min' hex hlast
      have hk : v (d, k) ≤ top (fun k => v (d, k)) (Nat.find hex) := by
        rcases hc : Nat.find hex with _ | i
        · exact le_top_zero (fun k => v (d, k)) k
        · have hnot := Nat.find_min hex (m := i) (by omega)
          exact le_top_succ (fun k => v (d, k)) (hlt.trans_le (not_lt.mp hnot))
      have hz : u (d, ⟨Nat.find hex, by omega⟩) = top (fun k => v (d, k)) (Nat.find hex) := hu d ⟨_, _⟩
      rw [← hz] at hi hk
      exact hk.trans (le_top_succ u (lt_of_lt_of_eq hi ih.symm))

/-- Where the family is listed in falling order, its `j`-th distinct value is never above the list's `j`-th entry. -/
theorem top_le_sorted {n : ℕ} (v : ι → EReal) (f : Fin n → ι) (hf : Function.Surjective f)
    (hs : ∀ a b : Fin n, a < b → v (f b) ≤ v (f a)) (j : ℕ) (hj : j < n) : top v j ≤ v (f ⟨j, hj⟩) := by
  have hs' : ∀ a b : Fin n, a ≤ b → v (f b) ≤ v (f a) := fun a b h => by
    rcases eq_or_lt_of_le h with rfl | h
    · exact le_rfl
    · exact hs a b h
  rw [← top_comp v f hf]
  induction j with
  | zero => exact Finset.sup_le fun k _ => hs' ⟨0, hj⟩ k (Nat.zero_le _)
  | succ j ih =>
    have ih := ih (Nat.lt_of_succ_lt hj)
    refine top_succ_le _ fun k hk => hs' ⟨j + 1, hj⟩ k ?_
    by_contra hn
    exact absurd (lt_of_lt_of_le hk ih) (not_lt.mpr (hs' k ⟨j, Nat.lt_of_succ_lt hj⟩ (Nat.le_of_lt_succ (not_le.mp hn))))

/-- Where, moreover, each of the list's first `j` steps falls, the two are equal. -/
theorem top_sorted {n : ℕ} (v : ι → EReal) (f : Fin n → ι) (hf : Function.Surjective f)
    (hs : ∀ a b : Fin n, a < b → v (f b) ≤ v (f a)) (j : ℕ) (hj : j < n)
    (hfall : ∀ i (hi : i < j), v (f ⟨i + 1, by omega⟩) < v (f ⟨i, by omega⟩)) :
    top v j = v (f ⟨j, hj⟩) := by
  refine le_antisymm (top_le_sorted v f hf hs j hj) ?_
  induction j with
  | zero => exact le_top_zero v _
  | succ j ih =>
    exact le_top_succ v (lt_of_lt_of_le (hfall j (Nat.lt_succ_self j))
      (ih (Nat.lt_of_succ_lt hj) fun i hi => hfall i (Nat.lt_succ_of_lt hi)))

end Cert.Leading

end
-- ==== Proof.Rounds.lean ====
/-
# What the kernel's arithmetic computes

The kernel takes a row's eight greatest values in eight rounds: the row's maximum, then minus infinity in place of every
entry equal to it. It does so twice, first on a device's own block (1024 lanes), then on the table of the four devices'
results side by side (32 lanes). Over the extended reals each round is a round of `Leading`, so that lane `i` of either
result is the `i`-th greatest distinct value of the row (`own_apply`, `merged_apply`).
-/
module

public import proofs.«01_k».proof.Proof.Gen.KernelIdeal
public import proofs.«01_k».proof.Proof.Gen.KernelIdeal.Skeleton
public import proofs.«01_k».proof.Proof.Leading
public import Idealize.ShloMosaic.Lib.Pointwise
public import Idealize.ShloMosaic.PureOps.Ideal

@[expose] public section

noncomputable section

namespace Cert.KernelIdeal.Rounds

open Cert.KernelIdeal Cert.KernelIdeal.Gen
open Idealize.ShloMosaic Cert.Leading

/-- The word of minus infinity is read as `⊥`. -/
theorem negInf : Ideal.ofBits .f32 0xFF800000#32 = ⊥ := by simp [Ideal.ofBits, Ideal.ieee]

variable {F : FTy → Type} [FloatOps F]

/-! ## One round on a block of 1024 lanes -/

/-- Each row's greatest value. -/
def greatest (v : FVec F S256x1024 .f32) : FVec F S256x1 .f32 :=
  shapeCast S256x1 (multiReduction .maximumf [1] S256 v 0xFF800000#32 reduces_S256x1024_S256 (.inl rfl) rfl) shapeCasts_S256_S256x1

/-- Minus infinity in place of each row's greatest value. -/
def without (v : FVec F S256x1024 .f32) : FVec F S256x1024 .f32 :=
  select (cmpf .oeq v (broadcastTo S256x1024 (greatest v) broadcasts_S256x1_S256x1024))
    (broadcast S256x1024 (Scalar.ofBits .f32 0xFF800000#32)) v

/-- The block after `j` rounds. -/
def rounds (v : FVec F S256x1024 .f32) : ℕ → FVec F S256x1024 .f32
  | 0 => v
  | j + 1 => without (rounds v j)

theorem greatest_apply (v : FVec Ideal S256x1024 .f32) (r : Fin 256) (c : Fin 1) :
    greatest v (ix2 r c) = Finset.univ.sup fun k : Fin 1024 => v (ix2 r k) := by
  unfold greatest
  pointwise
  rw [negInf]
  rfl

theorem without_apply (v : FVec Ideal S256x1024 .f32) (r : Fin 256) (k : Fin 1024) :
    without v (ix2 r k) = if v (ix2 r k) = Finset.univ.sup (fun k : Fin 1024 => v (ix2 r k)) then ⊥ else v (ix2 r k) := by
  have h := greatest_apply v r 0
  unfold without
  pointwise
  rw [negInf, h]

theorem rounds_apply (v : FVec Ideal S256x1024 .f32) (r : Fin 256) (j : ℕ) (k : Fin 1024) :
    rounds v j (ix2 r k) = left (fun k : Fin 1024 => v (ix2 r k)) j k := by
  induction j generalizing k with
  | zero => rfl
  | succ j ih =>
    have hf : (fun k : Fin 1024 => rounds v j (ix2 r k)) = left (fun k : Fin 1024 => v (ix2 r k)) j := funext ih
    show without (rounds v j) (ix2 r k) = _
    rw [without_apply, hf, ih]
    rfl

theorem greatest_rounds (v : FVec Ideal S256x1024 .f32) (r : Fin 256) (j : ℕ) (c : Fin 1) :
    greatest (rounds v j) (ix2 r c) = top (fun k : Fin 1024 => v (ix2 r k)) j := by
  rw [greatest_apply]
  exact congrArg _ (funext (rounds_apply v r j))

/-- What a device keeps of its block: the greatest value of each of eight rounds, side by side. -/
theorem own_eq (x : FVec F S256x1024 .f32) : k0_pay6 (k0_pay2 x) (k0_pay4 x) (k0_pay5 x)
    = shapeCast S1x256x8 (shapeCast S1x256x8 (concatenate S256x8 1
        [⟨S256x1, greatest (rounds (k0_pay1 x) 0)⟩, ⟨S256x1, greatest (rounds (k0_pay1 x) 1)⟩, ⟨S256x1, greatest (rounds (k0_pay1 x) 2)⟩,
          ⟨S256x1, greatest (rounds (k0_pay1 x) 3)⟩, ⟨S256x1, greatest (rounds (k0_pay1 x) 4)⟩, ⟨S256x1, greatest (rounds (k0_pay1 x) 5)⟩,
          ⟨S256x1, greatest (rounds (k0_pay1 x) 6)⟩, ⟨S256x1, greatest (rounds (k0_pay1 x) 7)⟩]
        concatenates_S256x1_S256x1_S256x1_S256x1_S256x1_S256x1_S256x1_S256x1_S256x8_d1) shapeCasts_S256x8_S1x256x8) shapeCasts_S1x256x8_S1x256x8 := rfl

theorem own_apply (x : FVec Ideal S256x1024 .f32) (a : Fin 1) (r : Fin 256) (i : Fin 8) :
    k0_pay6 (F := Ideal) (k0_pay2 x) (k0_pay4 x) (k0_pay5 x) (ix3 a r i) = top (fun k : Fin 1024 => x (ix2 r k)) i.val := by
  have hx : k0_pay1 x = x := by
    unfold k0_pay1
    exact shapeCast_self _ _
  rw [own_eq, hx]
  pointwise
  simp only [greatest_rounds]
  fin_vals i with hi
  all_goals simp only [hi, Nat.reduceSub, Nat.reduceLT, ↓reduceDIte]

/-! ## One round on the table of 32 lanes -/

/-- Each row's greatest value in the table. -/
def greatestT (v : FVec F S256x32 .f32) : FVec F S256x1 .f32 :=
  shapeCast S256x1 (multiReduction .maximumf [1] S256 v 0xFF800000#32 reduces_S256x32_S256 (.inl rfl) rfl) shapeCasts_S256_S256x1

/-- Minus infinity in place of each row's greatest value in the table. -/
def withoutT (v : FVec F S256x32 .f32) : FVec F S256x32 .f32 :=
  select (cmpf .oeq v (broadcastTo S256x32 (greatestT v) broadcasts_S256x1_S256x32))
    (broadcast S256x32 (Scalar.ofBits .f32 0xFF800000#32)) v

/-- The table after `j` rounds. -/
def roundsT (v : FVec F S256x32 .f32) : ℕ → FVec F S256x32 .f32
  | 0 => v
  | j + 1 => withoutT (roundsT v j)

theorem greatestT_apply (v : FVec Ideal S256x32 .f32) (r : Fin 256) (c : Fin 1) :
    greatestT v (ix2 r c) = Finset.univ.sup fun k : Fin 32 => v (ix2 r k) := by
  unfold greatestT
  pointwise
  rw [negInf]
  rfl

theorem withoutT_apply (v : FVec Ideal S256x32 .f32) (r : Fin 256) (k : Fin 32) :
    withoutT v (ix2 r k) = if v (ix2 r k) = Finset.univ.sup (fun k : Fin 32 => v (ix2 r k)) then ⊥ else v (ix2 r k) := by
  have h := greatestT_apply v r 0
  unfold withoutT
  pointwise
  rw [negInf, h]

theorem roundsT_apply (v : FVec Ideal S256x32 .f32) (r : Fin 256) (j : ℕ) (k : Fin 32) :
    roundsT v j (ix2 r k) = left (fun k : Fin 32 => v (ix2 r k)) j k := by
  induction j generalizing k with
  | zero => rfl
  | succ j ih =>
    have hf : (fun k : Fin 32 => roundsT v j (ix2 r k)) = left (fun k : Fin 32 => v (ix2 r k)) j := funext ih
    show withoutT (roundsT v j) (ix2 r k) = _
    rw [withoutT_apply, hf, ih]
    rfl

theorem greatestT_rounds (v : FVec Ideal S256x32 .f32) (r : Fin 256) (j : ℕ) (c : Fin 1) :
    greatestT (roundsT v j) (ix2 r c) = top (fun k : Fin 32 => v (ix2 r k)) j := by
  rw [greatestT_apply]
  exact congrArg _ (funext (roundsT_apply v r j))

/-- What a device makes of the table: the greatest value of each of eight rounds, side by side. -/
theorem merged_eq (b₀ b₁ b₂ b₃ : FVec F S1x256x8 .f32) : k0_pay10 (F := F) (k0_pay7 b₀ b₁ b₂ b₃) (k0_pay8 b₀ b₁ b₂ b₃) (k0_pay9 b₀ b₁ b₂ b₃)
    = concatenate S256x8 1
        [⟨S256x1, greatestT (roundsT (k0_pay7 b₀ b₁ b₂ b₃) 0)⟩, ⟨S256x1, greatestT (roundsT (k0_pay7 b₀ b₁ b₂ b₃) 1)⟩,
          ⟨S256x1, greatestT (roundsT (k0_pay7 b₀ b₁ b₂ b₃) 2)⟩, ⟨S256x1, greatestT (roundsT (k0_pay7 b₀ b₁ b₂ b₃) 3)⟩,
          ⟨S256x1, greatestT (roundsT (k0_pay7 b₀ b₁ b₂ b₃) 4)⟩, ⟨S256x1, greatestT (roundsT (k0_pay7 b₀ b₁ b₂ b₃) 5)⟩,
          ⟨S256x1, greatestT (roundsT (k0_pay7 b₀ b₁ b₂ b₃) 6)⟩, ⟨S256x1, greatestT (roundsT (k0_pay7 b₀ b₁ b₂ b₃) 7)⟩]
        concatenates_S256x1_S256x1_S256x1_S256x1_S256x1_S256x1_S256x1_S256x1_S256x8_d1 := rfl

theorem merged_apply (b₀ b₁ b₂ b₃ : FVec Ideal S1x256x8 .f32) (r : Fin 256) (i : Fin 8) :
    k0_pay10 (F := Ideal) (k0_pay7 (F := Ideal) b₀ b₁ b₂ b₃) (k0_pay8 (F := Ideal) b₀ b₁ b₂ b₃) (k0_pay9 (F := Ideal) b₀ b₁ b₂ b₃) (ix2 r i)
      = top (fun c : Fin 32 => k0_pay7 (F := Ideal) b₀ b₁ b₂ b₃ (ix2 r c)) i.val := by
  rw [merged_eq]
  generalize k0_pay7 (F := Ideal) b₀ b₁ b₂ b₃ = v
  pointwise
  simp only [greatestT_rounds]
  fin_vals i with hi
  all_goals simp only [hi, Nat.reduceSub, Nat.reduceLT, ↓reduceDIte]

/-- Lane `8 d + i` of the table is lane `i` of what device `d` sent. -/
theorem table_apply (b : Fin 4 → FVec Ideal S1x256x8 .f32) (r : Fin 256) (d : Fin 4) (i : Fin 8) :
    k0_pay7 (F := Ideal) (b 0) (b 1) (b 2) (b 3) (ix2 r ⟨d.val * 8 + i.val, by omega⟩) = b d (ix3 0 r i) := by
  have hi := i.isLt
  obtain ⟨d, hd⟩ := d
  unfold k0_pay7
  pointwise
  rcases d with _ | _ | _ | _ | d
  · rw [dif_pos (by omega)]
    exact congrArg (fun k => b 0 (ix3 0 r k)) (Fin.ext (by show 0 * 8 + i.val = i.val; omega))
  · rw [dif_neg (by omega), dif_pos (by omega)]
    exact congrArg (fun k => b 1 (ix3 0 r k)) (Fin.ext (by show (0 + 1) * 8 + i.val - 8 = i.val; omega))
  · rw [dif_neg (by omega), dif_neg (by omega), dif_pos (by omega)]
    exact congrArg (fun k => b 2 (ix3 0 r k)) (Fin.ext (by show (0 + 1 + 1) * 8 + i.val - 8 - 8 = i.val; omega))
  · rw [dif_neg (by omega), dif_neg (by omega), dif_neg (by omega)]
    exact congrArg (fun k => b 3 (ix3 0 r k)) (Fin.ext (by show (0 + 1 + 1 + 1) * 8 + i.val - 8 - 8 - 8 = i.val; omega))
  · omega

end Cert.KernelIdeal.Rounds

end
-- ==== Proof.Reference.lean ====
/-
# The reference's run

The reference is one straight line of array operations on one device: negate, sort the rows with their positions, keep
the first eight positions, look the values up. `leading x` is what it leaves in its result buffer; the argument stays.
-/
module

public import proofs.«01_k».proof.Proof.Gen.ReferenceIdeal
public import proofs.«01_k».proof.Proof.Gen.On_leading_distinct
public import Idealize.ShloMosaic.Lib.StableHlo.Run
public import Idealize.ShloMosaic.Lib.Quiescent

@[expose] public section

noncomputable section

namespace Cert.ReferenceIdeal.Run

open Cert.ReferenceIdeal Cert.ReferenceIdeal.Gen
open Idealize.ShloMosaic Idealize.ShloMosaic.TcCoe Idealize.ShloMosaic.StableHlo Idealize.SL.Sem

variable {F : FTy → Type} [FloatOps F]

/-- The positions of the eight greatest entries of each row. -/
def places (x : FVec F S256x4096 .f32) : IVec S256x8 32 :=
  extractStridedSlice S256x8 ![0, 0] (Cert.On_leading_distinct.fn_argsort (F := F) (Host.negf x)) slices_S256x4096_S256x8_0_0

/-- The reference's result. -/
def leading (x : FVec F S256x4096 .f32) : FVec F S256x8 .f32 :=
  Cert.On_leading_distinct.fn_take_along_axis (F := F) x (places x)

/-- The program's operations, in order. -/
abbrev ops : List (HloOp τ sig (Elt F)) :=
  [ unary main_arg0 main_v0 (Host.negf : (⟨S256x4096, .f32⟩ : BufTy).Contents (Elt F) → (⟨S256x4096, .f32⟩ : BufTy).Contents (Elt F)),
    TRef.nullary main_call0.v0 (iotaInDim S256x4096 32 1),
    TRef.binary (.of main_v0) main_call0.v0 main_call0.v1_0 (fun x y => (Host.sort2 S256x4096 1 comparator_f32_i32_d1 x y).1),
    TRef.binary (.of main_v0) main_call0.v0 main_call0.v1_1 (fun x y => (Host.sort2 S256x4096 1 comparator_f32_i32_d1 x y).2),
    unary main_v1 main_v2 ((extractStridedSlice S256x8 ![0, 0] · slices_S256x4096_S256x8_0_0) :
      (⟨S256x4096, .i32⟩ : BufTy).Contents (Elt F) → (⟨S256x8, .i32⟩ : BufTy).Contents (Elt F)),
    TRef.nullary main_call1.c (constantI S_ 32 0#32),
    TRef.unary main_call1.c main_call1.v0 (broadcastInDim S256x8 ![] bcast_S_S256x8),
    TRef.binary (.of main_v2) main_call1.v0 main_call1.v1 (cmpi .slt),
    TRef.nullary main_call1.c_0 (constantI S_ 32 4096#32),
    TRef.unary main_call1.c_0 main_call1.v2 (broadcastInDim S256x8 ![] bcast_S_S256x8),
    TRef.binary (.of main_v2) main_call1.v2 main_call1.v3 addi,
    TRef.ternary main_call1.v1 main_call1.v3 (.of main_v2) main_call1.v4 select,
    TRef.reshape main_call1.v4 main_call1.v5 (rfl : (.i32 : EltTy) = .i32) shapeCasts_S256x8_S256x8x1,
    TRef.nullary main_call1.c_1 (constantI S1 32 4095#32),
    TRef.nullary main_call1.c_2 (constantI S_ 32 0#32),
    TRef.unary main_call1.c_2 main_call1.v6 (broadcastInDim S256x8x1 ![] bcast_S_S256x8x1),
    TRef.binary main_call1.v5 main_call1.v6 main_call1.v7 (cmpi .sge),
    TRef.unary main_call1.c_1 main_call1.v8 (broadcastInDim S1x1x1 ![2] bcast_S1_S1x1x1_2),
    TRef.unary main_call1.v8 main_call1.v9 (broadcastInDim S256x8x1 ![0, 1, 2] bcast_S1x1x1_S256x8x1_0_1_2),
    TRef.binary main_call1.v5 main_call1.v9 main_call1.v10 (cmpi .sle),
    TRef.binary main_call1.v7 main_call1.v10 main_call1.v11 andi,
    TRef.nullary main_call1.c_3 (constantI S_ 1 1#1),
    TRef.binary main_call1.v11 main_call1.c_3 main_call1.v12 (fun x v => Host.reduce IntOp.andi x v reducesTo_S256x8x1_S256x8_d2 h_S_),
    TRef.binary (.of main_arg0) main_call1.v5 main_call1.v13 (fun x i => Host.gather gather_S256x4096_S256x8x1_S256x8_n_1_0_0_1_2_11 x i),
    TRef.nullary main_call1.cst (constant S_ .f32 0x7FC00000#32),
    TRef.unary main_call1.cst main_call1.v14 (broadcastInDim S256x8 ![] bcast_S_S256x8),
    TRef.ternary main_call1.v12 main_call1.v13 main_call1.v14 main_call1.v15 select ]

theorem main_eq (c : Dev nD) : main (F := F) c = seq ops := rfl

set_option maxHeartbeats 1000000 in
set_option maxRecDepth 4000 in
/-- The result buffer after the operations. -/
theorem out_eq (V : Valuation τ sig (Elt F)) : after ops V (main_v3 : DevRef τ sig) = leading (V (main_arg0 : DevRef τ sig)) := by
  simp only [ops, TRef.nullary, TRef.unary, TRef.binary, TRef.ternary, TRef.reshape, TRef.toBuf, TRef.ofBuf, cast_eq]
  after_results_simp
  rfl

set_option maxHeartbeats 1000000 in
set_option maxRecDepth 4000 in
/-- No operation writes the argument. -/
theorem arg_eq (V : Valuation τ sig (Elt F)) : after ops V (main_arg0 : DevRef τ sig) = V (main_arg0 : DevRef τ sig) := by
  simp only [ops, TRef.nullary, TRef.unary, TRef.binary, TRef.ternary, TRef.reshape]
  after_results_simp

theorem no_scoped_refs : (Finset.univ.filter fun b : Ref sig .tc => b.isScoped) = ∅ := by decide
theorem no_scoped_sems : (Finset.univ.filter fun sm : SemLoc sig => sm.isScoped .tc) = ∅ := by decide

/-- Every operation touches the core's own references only. -/
theorem ops_own : (ops : List (HloOp τ sig (Elt F))).Forall fun op => op.bufs ⊆ tcRefs τ sig :=
  ⟨unary_bufs_sub .., nullary_bufs_sub .., binary_bufs_sub .., binary_bufs_sub .., unary_bufs_sub .., nullary_bufs_sub .., unary_bufs_sub .., binary_bufs_sub .., nullary_bufs_sub .., unary_bufs_sub .., binary_bufs_sub .., ternary_bufs_sub .., reshape_bufs_sub .., nullary_bufs_sub .., nullary_bufs_sub .., unary_bufs_sub .., binary_bufs_sub .., unary_bufs_sub .., unary_bufs_sub .., binary_bufs_sub .., binary_bufs_sub .., nullary_bufs_sub .., binary_bufs_sub .., binary_bufs_sub .., nullary_bufs_sub .., unary_bufs_sub .., ternary_bufs_sub ..⟩

/-- Every weakly fair execution terminates with the result at `leading` of the argument, the argument unchanged and every
    semaphore at zero. -/
theorem run_main (m : (ℓ : Loc nD τ sig) → Buf (Elt F) ℓ) (ρ : Dev nD → PrngReg) :
    θ_run defs (onTc (τ := τ) (main (F := F))) ⟨m, fun _ => 0, ρ⟩ fun r =>
      (∀ c : Dev nD, r.2.mem ((c.tc : Thread nD τ).loc main_v3) = leading (m ((c.tc : Thread nD τ).loc main_arg0))
        ∧ r.2.mem ((c.tc : Thread nD τ).loc main_arg0) = m ((c.tc : Thread nD τ).loc main_arg0)) ∧ r.2.sem = fun _ => 0 :=
  (θ_run defs _ _).mono (fun r h => ⟨fun c => ⟨(h c main_v3).trans (out_eq _), (h c main_arg0).trans (arg_eq _)⟩,
      Idealize.ShloMosaic.sem_eq_zero_of_no_sems (by decide) r.2⟩)
    (run_seq no_scoped_refs no_scoped_sems defs main (fun _ => ops) main_eq (fun _ => ops_own) m ρ)

end Cert.ReferenceIdeal.Run

end
-- ==== Proof.Reading.lean ====
/-
# What the reference and the mask compute

Over the extended reals the reference's sort puts each row's entries in descending order, and the look-up reads them
back: entry `(r, j)` of the reference's result is entry `order x r j` of row `r` (`leading_apply`), where `order x r` is a
permutation along which the row never rises (`order_descends`). The mask holds at `(r, j)` only if each of the first
`j + 1` of these values falls below the one before it, or the `j`-th is minus infinity (`mask_falls`).
-/
module

public import proofs.«01_k».proof.Proof.Reference
public import Idealize.ShloMosaic.Lib.Pointwise
public import Idealize.ShloMosaic.Lib.SortFacts
public import Idealize.ShloMosaic.Lib.ValueIdxCore
public import Idealize.ShloMosaic.PureOps.Ideal

@[expose] public section

noncomputable section

namespace Cert.Reading

open Cert.On_leading_distinct Cert.On_leading_distinct.Gen
open Idealize.ShloMosaic

/-- The comparator of the sort: the smaller one comes first. -/
theorem before_iff (l r : EReal × BitVec 32) :
    comparator_f32_i32_d1 (F := Ideal) l r = 1#1 ↔ l.1 < r.1 := by
  have hz : ∀ z x : EReal, (Scalar.select (Ideal.cmp .oeq x z) z x : EReal) = x := by
    intro z x
    by_cases h : x = z <;> simp [Scalar.select, Ideal.cmp, h]
  have hn : ∀ x y z : EReal, (Scalar.select (Ideal.cmp .une x x) y z : EReal) = z := by
    intro x y z
    simp [Scalar.select, Ideal.cmp]
  show Ideal.cmp .olt
    (Scalar.select (Ideal.cmp .une l.1 l.1) (Ideal.ofBits .f32 0x7FC00000#32)
      (Scalar.select (Ideal.cmp .oeq l.1 (Ideal.ofBits .f32 0x00000000#32)) (Ideal.ofBits .f32 0x00000000#32) l.1))
    (Scalar.select (Ideal.cmp .une r.1 r.1) (Ideal.ofBits .f32 0x7FC00000#32)
      (Scalar.select (Ideal.cmp .oeq r.1 (Ideal.ofBits .f32 0x00000000#32)) (Ideal.ofBits .f32 0x00000000#32) r.1)) = 1#1 ↔ _
  rw [hn, hn, hz, hz]
  by_cases h : l.1 < r.1 <;> simp [Ideal.cmp, h]

/-- Row `r`'s entries that come before one another in the sort. -/
def ahead (x : FVec Ideal S256x4096 .f32) (r : Fin 256) (k k' : Fin 4096) : Bool :=
  comparator_f32_i32_d1 (F := Ideal) ((Host.negf x : FVec Ideal S256x4096 .f32) (ix2 r k), iotaInDim S256x4096 32 1 (ix2 r k))
    ((Host.negf x : FVec Ideal S256x4096 .f32) (ix2 r k'), iotaInDim S256x4096 32 1 (ix2 r k')) == 1#1

theorem ahead_iff (x : FVec Ideal S256x4096 .f32) (r : Fin 256) (k k' : Fin 4096) :
    ahead x r k k' = true ↔ (x (ix2 r k') : EReal) < x (ix2 r k) := by
  unfold ahead
  rw [beq_iff_eq, before_iff]
  exact EReal.neg_lt_neg_iff

/-- Which entry of row `r` comes to place `j`. -/
def order (x : FVec Ideal S256x4096 .f32) (r : Fin 256) : Fin 4096 → Fin 4096 := sortedFrom (ahead x r)

theorem order_surjective (x : FVec Ideal S256x4096 .f32) (r : Fin 256) : Function.Surjective (order x r) :=
  sortedFrom_surjective _

/-- The row never rises along the order. -/
theorem order_descends (x : FVec Ideal S256x4096 .f32) (r : Fin 256) (a b : Fin 4096) (h : a < b) :
    (x (ix2 r (order x r b)) : EReal) ≤ x (ix2 r (order x r a)) := by
  have hno := sortedFrom_noInversion (ahead x r) (ahead x r)
    (fun a b hab => by
      rw [ahead_iff] at hab
      rw [← Bool.not_eq_true, ahead_iff]
      exact not_lt_of_gt hab)
    (fun _ _ hab => hab)
    (fun a b c hab hbc => by
      rw [← Bool.not_eq_true, ahead_iff, not_lt] at hab hbc ⊢
      exact hab.trans hbc) a b h
  rw [← Bool.not_eq_true, ahead_iff, not_lt] at hno
  exact hno

/-- Changing the column of an index. -/
theorem along_col (r : Fin 256) (j k : Fin 4096) :
    (ix2 r j : S256x4096.Idx).along (1 : Fin 2) k = ix2 r k := by
  funext a
  fin_cases a <;> rfl

/-- A sort of two arrays along the rows, read at an entry of the second one. -/
theorem sort2_apply {α β : Type} (cmp : α × β → α × β → BitVec 1) (x : S256x4096.Idx → α) (y : S256x4096.Idx → β)
    (r : Fin 256) (j : Fin 4096) :
    (Host.sort2 S256x4096 1 cmp x y).2 (ix2 r j)
      = y (ix2 r (sortedFrom (fun k k' => cmp (x (ix2 r k), y (ix2 r k)) (x (ix2 r k'), y (ix2 r k')) == 1#1) j)) := by
  have hk : ∀ k : Fin 4096, (ix2 r j : S256x4096.Idx).along (1 : Fin 2) k = ix2 r k := along_col r j
  unfold Host.sort2
  rw [dif_pos (show 1 < S256x4096.rank from Nat.one_lt_two)]
  refine (congrArg y (hk _)).trans (congrArg (fun f => y (ix2 r (sortedFrom f j))) ?_)
  funext k k'
  exact congrArg₂ (fun a b => cmp (x a, y a) (x b, y b) == 1#1) (hk k) (hk k')

/-- The sorted positions. -/
theorem argsort_apply (x : FVec Ideal S256x4096 .f32) (r : Fin 256) (j : Fin 4096) :
    fn_argsort (F := Ideal) (Host.negf x) (ix2 r j) = BitVec.ofNat 32 (order x r j).val :=
  sort2_apply (comparator_f32_i32_d1 (F := Ideal)) (Host.negf x) (iotaInDim S256x4096 32 1) r j

/-- The first eight of them. -/
theorem places_apply (x : FVec Ideal S256x4096 .f32) (r : Fin 256) (j : Fin 8) :
    Cert.ReferenceIdeal.Run.places (F := Ideal) x (ix2 r j) = BitVec.ofNat 32 (order x r ⟨j.val, by omega⟩).val := by
  rw [← argsort_apply]
  unfold Cert.ReferenceIdeal.Run.places
  pointwise

/-- A position's word, read as a signed number. -/
theorem toInt_place (p : Fin 4096) : (BitVec.ofNat 32 p.val).toInt = p.val := by
  have hp := p.isLt
  rw [BitVec.toInt_eq_toNat_of_lt (by rw [BitVec.toNat_ofNat]; omega), BitVec.toNat_ofNat]
  omega

/-- The gather reads its own row at the column that the positions name. -/
theorem gather_apply (x : FVec Ideal S256x4096 .f32) (idx : IVec S256x8x1 32) (r : Fin 256) (j : Fin 8) (p : Fin 4096)
    (hp : idx (ix3 r j 0) = BitVec.ofNat 32 p.val) :
    Host.gather gather_S256x4096_S256x8x1_S256x8_n_1_0_0_1_2_11 x idx (ix2 r j) = x (ix2 r p) := by
  unfold Host.gather
  congr 1
  funext a
  refine Fin.ext ?_
  show GatherDims.start gather_S256x4096_S256x8x1_S256x8_n_1_0_0_1_2_11 (ix2 r j) idx a
      + GatherDims.batchCoord gather_S256x4096_S256x8x1_S256x8_n_1_0_0_1_2_11 (ix2 r j) a
      + GatherDims.offCoord gather_S256x4096_S256x8x1_S256x8_n_1_0_0_1_2_11 (ix2 r j) a = _
  have h01 : a = 0 ∨ a = 1 := by
    match a with
    | ⟨0, _⟩ => exact Or.inl rfl
    | ⟨1, _⟩ => exact Or.inr rfl
  rcases h01 with rfl | rfl
  · have hb : (0 : Fin 2) ∈ gather_S256x4096_S256x8x1_S256x8_n_1_0_0_1_2_11.operandBatchingDims := List.mem_singleton.mpr rfl
    rw [GatherDims.start_batching _ _ _ _ hb, GatherDims.offCoord_eq_zero _ _ _ (fun h => ((GatherDims.mem_sKept _ _).mp h).2 hb)]
    unfold GatherDims.batchCoord
    rw [dif_pos hb]
    show 0 + r.val + 0 = r.val
    omega
  · have hm : (1 : Fin 2) ∈ gather_S256x4096_S256x8x1_S256x8_n_1_0_0_1_2_11.startIndexMap := List.mem_singleton.mpr rfl
    have hc : (1 : Fin 2) ∈ gather_S256x4096_S256x8x1_S256x8_n_1_0_0_1_2_11.collapsedSliceDims := List.mem_singleton.mpr rfl
    have hb : (1 : Fin 2) ∉ gather_S256x4096_S256x8x1_S256x8_n_1_0_0_1_2_11.operandBatchingDims := fun h =>
      Fin.zero_ne_one (List.mem_singleton.mp h).symm
    rw [GatherDims.batchCoord_eq_zero _ _ _ hb, GatherDims.offCoord_eq_zero _ _ _ (fun h => ((GatherDims.mem_sKept _ _).mp h).1 hc)]
    unfold GatherDims.start
    rw [dif_pos hm]
    have hsi : GatherDims.siIdx gather_S256x4096_S256x8x1_S256x8_n_1_0_0_1_2_11 (ix2 r j)
        ⟨List.idxOf (1 : Fin 2) gather_S256x4096_S256x8x1_S256x8_n_1_0_0_1_2_11.startIndexMap, List.idxOf_lt_length_iff.2 hm⟩
          = ix3 r j 0 := by
      funext b
      refine Fin.ext ?_
      match b with
      | ⟨0, _⟩ => rfl
      | ⟨1, _⟩ => rfl
      | ⟨2, _⟩ => rfl
    rw [hsi, hp, toInt_place, Int.toNat_natCast]
    show min p.val (4096 - 1) + 0 + 0 = p.val
    have := p.isLt
    omega

/-- A position below 4096 is looked up as it is: it is not negative, and in bounds. -/
theorem take_apply (x : FVec Ideal S256x4096 .f32) (idx : IVec S256x8 32) (r : Fin 256) (j : Fin 8) (p : Fin 4096)
    (hp : idx (ix2 r j) = BitVec.ofNat 32 p.val) :
    fn_take_along_axis (F := Ideal) x idx (ix2 r j) = x (ix2 r p) := by
  have hv := p.isLt
  have hneg : IntOp.cmpi .slt (BitVec.ofNat 32 p.val) 0#32 = 0#1 := by
    show BitVec.ofBool (BitVec.slt _ _) = _
    rw [BitVec.slt, toInt_place, decide_eq_false (by simp)]
    rfl
  have hge : IntOp.cmpi .sge (BitVec.ofNat 32 p.val) 0#32 = 1#1 := by
    show BitVec.ofBool (BitVec.sle _ _) = _
    rw [BitVec.sle, toInt_place, decide_eq_true (by simp)]
    rfl
  have hle : IntOp.cmpi .sle (BitVec.ofNat 32 p.val) 4095#32 = 1#1 := by
    show BitVec.ofBool (BitVec.sle _ _) = _
    rw [BitVec.sle, toInt_place, decide_eq_true (by show (p.val : Int) ≤ 4095; omega)]
    rfl
  have hsel : ∀ a b : BitVec 32, Scalar.select (0#1) a b = b := fun _ _ => rfl
  unfold fn_take_along_axis
  pointwise
  simp only [hp, hneg, hsel, hge, hle]
  rw [gather_apply x _ r j p (by pointwise; simp only [hp, hneg, hsel])]
  rfl

/-- The reference's result: each row's entries in the order of the sort, the first eight. -/
theorem leading_apply (x : FVec Ideal S256x4096 .f32) (r : Fin 256) (j : Fin 8) :
    Cert.ReferenceIdeal.Run.leading (F := Ideal) x (ix2 r j) = x (ix2 r (order x r ⟨j.val, by omega⟩)) :=
  take_apply x _ r j _ (places_apply x r j)

/-! ## The mask -/

/-- Whether each value falls below the one before it. -/
def drops (v : FVec Ideal S256x8 .f32) : IVec S256x7 1 :=
  cmpf .olt (extractStridedSlice S256x7 ![0, 1] v slices_S256x8_S256x7_0_1) (extractStridedSlice S256x7 ![0, 0] v slices_S256x8_S256x7_0_0)

/-- Whether a value is minus infinity. -/
def none (v : FVec Ideal S256x8 .f32) : IVec S256x8 1 :=
  cmpf .oeq v (broadcastInDim S256x8 ![] bcast_S_S256x8 (constant (F := Ideal) S_ .f32 0xFF800000#32))

/-- Column `j` of the first condition from the columns before it: what held so far, and the next drop. -/
def upTo (d : IVec S256x7 1) : IVec S256x8 1 :=
  let c0 : IVec S256x1 1 := broadcastInDim S256x1 ![] bcast_S_S256x1 (constantI S_ 1 1#1)
  let c1 := andi c0 (extractStridedSlice S256x1 ![0, 0] d slices_S256x7_S256x1_0_0)
  let c2 := andi c1 (extractStridedSlice S256x1 ![0, 1] d slices_S256x7_S256x1_0_1)
  let c3 := andi c2 (extractStridedSlice S256x1 ![0, 2] d slices_S256x7_S256x1_0_2)
  let c4 := andi c3 (extractStridedSlice S256x1 ![0, 3] d slices_S256x7_S256x1_0_3)
  let c5 := andi c4 (extractStridedSlice S256x1 ![0, 4] d slices_S256x7_S256x1_0_4)
  let c6 := andi c5 (extractStridedSlice S256x1 ![0, 5] d slices_S256x7_S256x1_0_5)
  let c7 := andi c6 (extractStridedSlice S256x1 ![0, 6] d slices_S256x7_S256x1_0_6)
  concatenate S256x8 1 [⟨S256x1, c0⟩, ⟨S256x1, c1⟩, ⟨S256x1, c2⟩, ⟨S256x1, c3⟩, ⟨S256x1, c4⟩, ⟨S256x1, c5⟩, ⟨S256x1, c6⟩, ⟨S256x1, c7⟩]
    concatenates_S256x1_S256x1_S256x1_S256x1_S256x1_S256x1_S256x1_S256x1_S256x8_d1

theorem mask_eq (x : FVec Ideal S256x4096 .f32) :
    fn (F := Ideal) x = ori (upTo (drops (Cert.ReferenceIdeal.Run.leading (F := Ideal) x)))
      (none (Cert.ReferenceIdeal.Run.leading (F := Ideal) x)) := rfl

theorem and_one {a b : BitVec 1} : IntOp.andi a b = 1#1 ↔ a = 1#1 ∧ b = 1#1 := by
  revert a b; decide

theorem or_one {a b : BitVec 1} : IntOp.ori a b = 1#1 ↔ a = 1#1 ∨ b = 1#1 := by
  revert a b; decide

theorem upTo_apply (d : IVec S256x7 1) (r : Fin 256) (j : Fin 8) (h : upTo d (ix2 r j) = 1#1) (i : Fin 7) (hi : i.val < j.val) :
    d (ix2 r i) = 1#1 := by
  revert h
  unfold upTo
  pointwise
  fin_vals j with hj
  all_goals simp only [hj, Nat.reduceSub, Nat.reduceLT, Nat.reduceAdd, ↓reduceDIte, and_one]
  all_goals intro h
  all_goals
    obtain ⟨i, hi7⟩ := i
    replace hi : i < _ := hi
    rw [hj] at hi
  all_goals
    rcases i with _ | _ | _ | _ | _ | _ | _ | i
    all_goals first
      | (exfalso; omega)
      | exact h.2
      | exact h.1.2
      | exact h.1.1.2
      | exact h.1.1.1.2
      | exact h.1.1.1.1.2
      | exact h.1.1.1.1.1.2
      | exact h.1.1.1.1.1.1.2

theorem of_decide {p : Prop} [Decidable p] (h : BitVec.ofBool (decide p) = 1#1) : p := by
  by_contra hp
  rw [decide_eq_false hp] at h
  exact absurd h (by decide)

theorem drops_apply (v : FVec Ideal S256x8 .f32) (r : Fin 256) (i : Fin 7) (h : drops v (ix2 r i) = 1#1) :
    (v (ix2 r ⟨i.val + 1, by omega⟩) : EReal) < v (ix2 r ⟨i.val, by omega⟩) := by
  have hc : (⟨1 + i.val, by omega⟩ : Fin 8) = ⟨i.val + 1, by omega⟩ := Fin.ext (Nat.add_comm _ _)
  revert h
  unfold drops
  pointwise
  rw [hc]
  exact of_decide

theorem none_apply (v : FVec Ideal S256x8 .f32) (r : Fin 256) (j : Fin 8) (h : none v (ix2 r j) = 1#1) :
    (v (ix2 r j) : EReal) = ⊥ := by
  have hinf : Ideal.ofBits .f32 0xFF800000#32 = ⊥ := by simp [Ideal.ofBits, Ideal.ieee]
  revert h
  unfold none
  pointwise
  rw [hinf]
  exact of_decide

/-- Where the mask holds, every value up to there falls below the one before it, or the value there is minus infinity. -/
theorem mask_falls (x : FVec Ideal S256x4096 .f32) (r : Fin 256) (j : Fin 8) (h : fn (F := Ideal) x (ix2 r j) = 1#1) :
    (∀ (i : ℕ) (hi : i < j.val),
        (x (ix2 r (order x r ⟨i + 1, by omega⟩)) : EReal) < x (ix2 r (order x r ⟨i, by omega⟩)))
      ∨ (x (ix2 r (order x r ⟨j.val, by omega⟩)) : EReal) = ⊥ := by
  rw [mask_eq] at h
  rcases or_one.mp h with h | h
  · refine Or.inl fun i hi => ?_
    have hd := drops_apply _ r ⟨i, by omega⟩ (upTo_apply _ r j h ⟨i, by omega⟩ hi)
    rw [leading_apply, leading_apply] at hd
    exact hd
  · have hn := none_apply _ r j h
    rw [leading_apply] at hn
    exact Or.inr hn

end Cert.Reading

end
-- ==== Proof.Value.lean ====
/-
# The value that every device ends with

Every device's result at `(r, j)` is the `j`-th greatest distinct value of the whole row `r`: a device's own eight are
those of its block (`own_apply`), the merge takes them of the table (`merged_apply`), and the table's first eight are the
row's (`top_table`). Where the mask holds that is the reference's `j`-th sorted entry (`top_sorted`, `top_le_sorted`).
-/
module

public import proofs.«01_k».proof.Proof.Run
public import proofs.«01_k».proof.Proof.Rounds
public import proofs.«01_k».proof.Proof.Reading
public import Idealize.ShloMosaic.Lib.Layout

@[expose] public section

noncomputable section

namespace Cert.KernelIdeal.Value

open Cert.KernelIdeal Cert.KernelIdeal.Gen Cert.KernelIdeal.Exchange Cert.KernelIdeal.Rounds
open Idealize.ShloMosaic Idealize.ShloMosaic.TcCoe Idealize.SL.Sem Cert.Leading

section
variable {F : FTy → Type} [FloatOps F]
variable (m : (ℓ : Loc nD τ sig) → Buf (Elt F) ℓ) (ρ : Dev nD → PrngReg)

/-- A window at the array's origin, of the array's own shape. -/
theorem origin0 : (fun a => (win0_0.index (0 : Fin 1)) a * main_arg0.ty.shape.size a) = fun _ => 0 :=
  funext fun a => by fin_cases a <;> decide

theorem origin1 : (fun a => (win0_1.index (0 : Fin 1)) a * main_v1.ty.shape.size a) = fun _ => 0 :=
  funext fun a => by fin_cases a <;> decide

/-- What a device works on is its argument, whole. -/
theorem xstg_eq (c : Dev nD) : xstg m ρ c = m ((c : Thread nD τ).loc main_arg0) :=
  Memref.read_access_unit_zero (Elt F) main_arg0 origin0 (fun a => by fin_cases a <;> decide) _

/-- A device's result buffer after the run. -/
theorem finalA_o (c : Dev nD) : finalA m ρ c (1 : Fin 2) = outAt m ρ := by
  have h : (win0_1.blk (0 : Fin 1)).view.read (Elt F) (finalA m ρ c (1 : Fin 2)) = outAt m ρ := by
    unfold finalA
    rw [show cfg0.N = ((0 : Fin 1) : Fin cfg0.N).val + 1 from rfl, (dats m ρ 0 c).arrAt_succ (1 : Fin 2) (0 : Fin 1)]
    rw [show (cfg0.win (1 : Fin 2)).flush (0 : Fin 1) = true from by decide, if_pos rfl]
    exact View.read_write_univ _ _
  exact (Memref.read_access_unit_zero (Elt F) main_v1 origin1 (fun a => by fin_cases a <;> decide) _).symm.trans h

/-- The run, read at the argument and the result. -/
theorem run_value : θ_run defs (onTc (τ := τ) (main (F := F))) ⟨m, fun _ => 0, ρ⟩ fun r =>
    (∀ c : Dev nD, r.2.mem ((c : Thread nD τ).loc main_v1) = outAt m ρ
      ∧ r.2.mem ((c : Thread nD τ).loc main_arg0) = m ((c : Thread nD τ).loc main_arg0)) ∧ r.2.sem = fun _ => 0 :=
  (θ_run defs _ _).mono (fun _ h => ⟨fun c => ⟨(h.1 c (1 : Fin 2)).trans (finalA_o m ρ c), (h.1 c (0 : Fin 2)).trans (finalA_x m ρ c)⟩, h.2⟩)
    (run_main (F := F) m ρ)

end

/-! ## The whole row -/

/-- Lane `k` of device `d`'s block is lane `1024 d + k` of the whole row. -/
def lane (p : Fin 4 × Fin 1024) : Fin 4096 := ⟨p.1.val * 1024 + p.2.val, by omega⟩

theorem lane_surjective : Function.Surjective lane := fun k =>
  ⟨(⟨k.val / 1024, by omega⟩, ⟨k.val % 1024, by omega⟩), Fin.ext (by show k.val / 1024 * 1024 + k.val % 1024 = k.val; omega)⟩

/-- Lane `8 d + i` of the table. -/
def slot (p : Fin 4 × Fin 8) : Fin 32 := ⟨p.1.val * 8 + p.2.val, by omega⟩

theorem slot_surjective : Function.Surjective slot := fun k =>
  ⟨(⟨k.val / 8, by omega⟩, ⟨k.val % 8, by omega⟩), Fin.ext (by show k.val / 8 * 8 + k.val % 8 = k.val; omega)⟩

theorem block_lane (x : (⟨2, ![256, 4096]⟩ : Shape).Idx → EReal) (d : Fin 4) (r : Fin 256) (k : Fin 1024) :
    Layout.block ⟨2, ![256, 1024]⟩ ⟨2, ![256, 4096]⟩ 1 4 d x (by decide) (ix2 r k) = x (ix2 r (lane (d, k))) := by
  refine congrArg x (funext fun a => ?_)
  fin_cases a <;> rfl

variable (m : (ℓ : Loc nD τ sig) → Buf (Elt Ideal) ℓ) (ρ : Dev nD → PrngReg)

/-- Every device's result is the row's `j`-th greatest distinct value. -/
theorem outAt_apply (x : FVec Ideal ⟨2, ![256, 4096]⟩ .f32)
    (hx : ∀ c : Dev nD, m ((c : Thread nD τ).loc main_arg0) = Layout.block ⟨2, ![256, 1024]⟩ ⟨2, ![256, 4096]⟩ 1 4 c x (by decide))
    (r : Fin 256) (j : Fin 8) : outAt (F := Ideal) m ρ (ix2 r j) = top (fun k : Fin 4096 => (x (ix2 r k) : EReal)) j.val := by
  have hbest : ∀ (d : Fin 4) (i : Fin 8), best (F := Ideal) m ρ d (ix3 0 r i) = top (fun k : Fin 1024 => (x (ix2 r (lane (d, k))) : EReal)) i.val := by
    intro d i
    unfold best
    rw [own_apply, xstg_eq, hx]
    exact congrArg (fun v => top v i.val) (funext fun k => block_lane x d r k)
  unfold outAt
  rw [merged_apply, ← top_comp _ slot slot_surjective, ← top_comp _ lane lane_surjective]
  refine top_table (fun p => (x (ix2 r (lane p)) : EReal)) _ (fun d i => ?_) j.val j.isLt
  exact (table_apply (fun d => best (F := Ideal) m ρ d) r d i).trans (hbest d i)

/-- Where the mask holds it is the reference's result. -/
theorem outAt_leading (x : FVec Ideal ⟨2, ![256, 4096]⟩ .f32)
    (hx : ∀ c : Dev nD, m ((c : Thread nD τ).loc main_arg0) = Layout.block ⟨2, ![256, 1024]⟩ ⟨2, ![256, 4096]⟩ 1 4 c x (by decide))
    (i : (⟨2, ![256, 8]⟩ : Shape).Idx) (hi : Cert.On_leading_distinct.fn (F := Ideal) x i = 1#1) :
    outAt (F := Ideal) m ρ i = Cert.ReferenceIdeal.Run.leading (F := Ideal) x i := by
  obtain ⟨r, j, rfl⟩ : ∃ (r : Fin 256) (j : Fin 8), i = ix2 r j := ⟨i 0, i 1, by funext a; fin_cases a <;> rfl⟩
  rw [outAt_apply m ρ x hx, Cert.Reading.leading_apply]
  rcases Cert.Reading.mask_falls x r j hi with h | h
  · exact top_sorted (fun k : Fin 4096 => (x (ix2 r k) : EReal)) (Cert.Reading.order x r) (Cert.Reading.order_surjective x r)
      (Cert.Reading.order_descends x r) j.val (by omega) h
  · rw [h]
    exact le_bot_iff.mp (le_of_le_of_eq (top_le_sorted (fun k : Fin 4096 => (x (ix2 r k) : EReal)) (Cert.Reading.order x r)
      (Cert.Reading.order_surjective x r) (Cert.Reading.order_descends x r) j.val (by omega)) h)

end Cert.KernelIdeal.Value

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.On_leading_distinct
public import proofs.«01_k».proof.Proof.PrintedRun
public import proofs.«01_k».proof.Proof.Value
public import Idealize.ShloMosaic.Adequacy
public import Idealize.ShloMosaic.Init

@[expose] public section

noncomputable section

namespace Cert.Proof

open Idealize.ShloMosaic Idealize.SL.Sem Cert.Kernel

/-- The kernel as printed ends with its argument unchanged and every semaphore at zero. -/
theorem frame_kernel : Cert.quiescent_Kernel (hKernel := Cert.Kernel.Gen.facts) := fun m g _ =>
  (θ_run Cert.Kernel.defs _ _).mono
    (fun _ h => ⟨fun c => (h.1 c (0 : Fin 2)).trans (Cert.Kernel.Exchange.finalA_x m g c), h.2⟩)
    (Cert.Kernel.Exchange.run_main (F := Bits) m g)

/-- So does the kernel over the extended reals. -/
theorem frame_ideal : Cert.quiescent_KernelIdeal (hKernelIdeal := Cert.KernelIdeal.Gen.facts) := fun m g _ =>
  (θ_run Cert.KernelIdeal.defs _ _).mono (fun _ h => ⟨fun c => (h.1 c).2, h.2⟩)
    (Cert.KernelIdeal.Value.run_value (F := Ideal) m g)

/-- So does the reference. -/
theorem frame_reference : Cert.quiescent_ReferenceIdeal (hReferenceIdeal := Cert.ReferenceIdeal.Gen.facts) := fun m g _ =>
  (θ_run Cert.ReferenceIdeal.defs _ _).mono (fun _ h => ⟨fun c => (h.1 c).2, h.2⟩)
    (Cert.ReferenceIdeal.Run.run_main (F := Ideal) m g)

/-- Where the mask holds, every device ends with the reference's result. -/
theorem value : Cert.algebraic_KernelIdeal_ReferenceIdeal_on_leading_distinct (hKernelIdeal := Cert.KernelIdeal.Gen.facts)
    (hReferenceIdeal := Cert.ReferenceIdeal.Gen.facts) (hOn_leading_distinct := Cert.On_leading_distinct.Gen.facts) :=
  fun m g m' g' _ hx =>
    ⟨Cert.ReferenceIdeal.Run.leading (F := Ideal)
        (m' (((0 : Dev Cert.ReferenceIdeal.nD).tc : Thread Cert.ReferenceIdeal.nD Cert.ReferenceIdeal.τ).loc Cert.ReferenceIdeal.main_arg0)),
      (θ_run Cert.KernelIdeal.defs _ _).mono
        (fun _ h c => ⟨fun i hi => (congrFun (h.1 c).1 i).trans (Cert.KernelIdeal.Value.outAt_leading m g _ hx i hi), (h.1 c).2⟩)
        (Cert.KernelIdeal.Value.run_value (F := Ideal) m g),
      (θ_run Cert.ReferenceIdeal.defs _ _).mono (fun _ h => ⟨fun i _ => congrFun (h.1 0).1 i, (h.1 0).2⟩)
        (Cert.ReferenceIdeal.Run.run_main (F := Ideal) m' g')⟩

theorem claim : Cert.Claim := ⟨Cert.Kernel.Gen.facts, Cert.KernelIdeal.Gen.facts, Cert.ReferenceIdeal.Gen.facts, Cert.On_leading_distinct.Gen.facts,
  frame_kernel, frame_ideal, frame_reference, trivial, value⟩

end Cert.Proof

end
